-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_sorted_variances_valid [hPre_offsets_sorted_variances_valid : Cert.Pre_offsets_sorted_variances_valid.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_sorted_variances_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_sorted_variances_valid [hPre_offsets_sorted_variances_valid : Cert.Pre_offsets_sorted_variances_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_sorted_variances_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_offsets_sorted_variances_valid [hKernelIdeal : Cert.KernelIdeal.Facts] [hPre_offsets_sorted_variances_valid : Cert.Pre_offsets_sorted_variances_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_sorted_variances_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_offsets_sorted_variances_valid [hReferenceIdeal : Cert.ReferenceIdeal.Facts] [hPre_offsets_sorted_variances_valid : Cert.Pre_offsets_sorted_variances_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_sorted_variances_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_offsets_sorted_variances_valid [hKernelIdeal : Cert.KernelIdeal.Facts] [hReferenceIdeal : Cert.ReferenceIdeal.Facts] [hPre_offsets_sorted_variances_valid : Cert.Pre_offsets_sorted_variances_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_sorted_variances_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_offsets_sorted_variances_valid : Cert.Pre_offsets_sorted_variances_valid.Facts),
    quiescent_Kernel (hKernel := hKernel)
    ∧ quiescent_KernelIdeal (hKernelIdeal := hKernelIdeal)
    ∧ quiescent_KernelIdeal_pre_offsets_sorted_variances_valid (hKernelIdeal := hKernelIdeal) (hPre_offsets_sorted_variances_valid := hPre_offsets_sorted_variances_valid)
    ∧ quiescent_ReferenceIdeal (hReferenceIdeal := hReferenceIdeal)
    ∧ quiescent_ReferenceIdeal_pre_offsets_sorted_variances_valid (hReferenceIdeal := hReferenceIdeal) (hPre_offsets_sorted_variances_valid := hPre_offsets_sorted_variances_valid)
    ∧ preserves_Kernel_KernelIdeal
    ∧ algebraic_KernelIdeal_ReferenceIdeal_pre_offsets_sorted_variances_valid (hKernelIdeal := hKernelIdeal) (hReferenceIdeal := hReferenceIdeal) (hPre_offsets_sorted_variances_valid := hPre_offsets_sorted_variances_valid)
-- ==== Pre_offsets_sorted_variances_valid.lean ====
abbrev S32768x96 : Shape := ⟨2, ![32768, 96]⟩
abbrev S17 : Shape := ⟨1, ![17]⟩
abbrev S16x3 : Shape := ⟨2, ![16, 3]⟩
abbrev S96x256 : Shape := ⟨2, ![96, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S16_0 : S17.Slices ![0] S16
  slices_S17_S16_1 : S17.Slices ![1] S16
  reducesTo_S16_S_d0 : S16.ReducesTo [0] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v15 : FVec F S128 .f32) (main_v16 : FVec F S128 .f32) : IVec S_ 1 :=
  let main_v17 : IVec S128 1 := cmpf .ogt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v13 main_v18
  main_v19

def fn {F : FTy → Type} [FloatOps F] (main_arg0 : FVec F S32768x96 .f32) (main_arg1 : IVec S17 32) (main_arg2 : FVec F S16x3 .f32) (main_arg3 : FVec F S96x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x3 .f32) (main_arg16 : FVec F S3 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .sle main_v1 main_c
  let main_v3 : IVec S16 32 := (extractStridedSlice S16 ![0] · slices_S17_S16_0) main_arg1
  let main_v4 : IVec S16 32 := (extractStridedSlice S16 ![1] · slices_S17_S16_1) main_arg1
  let main_v5 : IVec S16 1 := cmpi .sle main_v3 main_v4
  let main_c_0 : IVec S_ 1 := constantI S_ 1 1#1
  let main_v6 : IVec S_ 1 := (fun x v => Host.reduce IntOp.andi x v reducesTo_S16_S_d0 h_S_) main_v5 main_c_0
  let main_v7 : IVec S_ 1 := andi main_v2 main_v6
  let main_cst : FVec F S_ .f32 := constant S_ .f32 0x3727C5AC#32
  let main_v8 : FVec F S256 .f32 := broadcastInDim S256 ![] bcast_S_S256 main_cst
  let main_v9 : FVec F S256 .f32 := addf main_arg8 main_v8
  let main_cst_1 : FVec F S_ .f32 := constant S_ .f32 0x00000000#32
  let main_v10 : FVec F S256 .f32 := broadcastInDim S256 ![] bcast_S_S256 main_cst_1
  let main_v11 : IVec S256 1 := cmpf .ogt main_v9 main_v10
  let main_c_2 : IVec S_ 1 := constantI S_ 1 1#1
  let main_v12 : IVec S_ 1 := (fun x v => Host.reduce IntOp.andi x v reducesTo_S256_S_d0 h_S_) main_v11 main_c_2
  let main_v13 : IVec S_ 1 := andi main_v7 main_v12
  let main_cst_3 : FVec F S_ .f32 := constant S_ .f32 0x3727C5AC#32
  let main_v14 : FVec F S128 .f32 := broadcastInDim S128 ![] bcast_S_S128 main_cst_3
  let main_v15 : FVec F S128 .f32 := addf main_arg14 main_v14
  let main_cst_4 : FVec F S_ .f32 := constant S_ .f32 0x00000000#32
  let main_v16 : FVec F S128 .f32 := broadcastInDim S128 ![] bcast_S_S128 main_cst_4
  fn_part1 (F := F) main_v13 main_v15 main_v16
-- ==== Kernel.lean ====
abbrev S32768x96 : Shape := ⟨2, ![32768, 96]⟩
abbrev S17 : Shape := ⟨1, ![17]⟩
abbrev S16x3 : Shape := ⟨2, ![16, 3]⟩
abbrev S96x256 : Shape := ⟨2, ![96, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S16 : Shape := ⟨1, ![16]⟩
abbrev S16x1 : Shape := ⟨2, ![16, 1]⟩
abbrev S1x256 : Shape := ⟨2, ![1, 256]⟩
abbrev S1x128 : Shape := ⟨2, ![1, 128]⟩
abbrev S1x3 : Shape := ⟨2, ![1, 3]⟩
abbrev S1x1 : Shape := ⟨2, ![1, 1]⟩
abbrev S4096x96 : Shape := ⟨2, ![4096, 96]⟩
abbrev S16x96 : Shape := ⟨2, ![16, 96]⟩
abbrev S16x4096 : Shape := ⟨2, ![16, 4096]⟩
abbrev S16x256 : Shape := ⟨2, ![16, 256]⟩
abbrev S16x128 : Shape := ⟨2, ![16, 128]⟩
abbrev S1x16x3 : Shape := ⟨3, ![1, 16, 3]⟩
abbrev S1 : Shape := ⟨1, ![1]⟩
abbrev S1x1x1 : Shape := ⟨3, ![1, 1, 1]⟩
abbrev S1x16 : Shape := ⟨2, ![1, 16]⟩

abbrev nBuf : Space → Nat
  | .hbm => 35
  | .vmem => 23
  | .smem => 0
  | _ => 0

abbrev bufTy : (tb : Table) → Fin (tcTables nBuf tb) → BufTy
  | .hbm, ⟨0, _⟩ => ⟨S32768x96, .f32⟩
  | .hbm, ⟨1, _⟩ => ⟨S17, .i32⟩
  | .hbm, ⟨2, _⟩ => ⟨S16x3, .f32⟩
  | .hbm, ⟨3, _⟩ => ⟨S96x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x3, .f32⟩
  | .hbm, ⟨16, _⟩ => ⟨S3, .f32⟩
  | .hbm, ⟨17, _⟩ => ⟨S16, .i32⟩
  | .hbm, ⟨18, _⟩ => ⟨S16x1, .i32⟩
  | .hbm, ⟨19, _⟩ => ⟨S16, .i32⟩
  | .hbm, ⟨20, _⟩ => ⟨S16x1, .i32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x3, .f32⟩
  | .hbm, ⟨32, _⟩ => ⟨S16x3, .f32⟩
  | .hbm, ⟨33, _⟩ => ⟨S1x1, .f32⟩
  | .hbm, ⟨34, _⟩ => ⟨S1x1, .f32⟩
  | .local _ .vmem, ⟨0, _⟩ => ⟨S16x1, .i32⟩
  | .local _ .vmem, ⟨1, _⟩ => ⟨S16x1, .i32⟩
  | .local _ .vmem, ⟨2, _⟩ => ⟨S4096x96, .f32⟩
  | .local _ .vmem, ⟨3, _⟩ => ⟨S4096x96, .f32⟩
  | .local _ .vmem, ⟨4, _⟩ => ⟨S16x3, .f32⟩
  | .local _ .vmem, ⟨5, _⟩ => ⟨S96x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x3, .f32⟩
  | .local _ .vmem, ⟨18, _⟩ => ⟨S1x3, .f32⟩
  | .local _ .vmem, ⟨19, _⟩ => ⟨S16x3, .f32⟩
  | .local _ .vmem, ⟨20, _⟩ => ⟨S1x1, .f32⟩
  | .local _ .vmem, ⟨21, _⟩ => ⟨S1x1, .f32⟩
  | .local _ .vmem, ⟨22, _⟩ => ⟨S16x96, .f32⟩
  | _, _ => ⟨S32768x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S32768x96 : Shape := ⟨2, ![32768, 96]⟩
abbrev S17 : Shape := ⟨1, ![17]⟩
abbrev S16x3 : Shape := ⟨2, ![16, 3]⟩
abbrev S96x256 : Shape := ⟨2, ![96, 256]⟩
abbrev S256 : Shape := ⟨1, ![256]⟩
abbrev S256x128 : Shape := ⟨2, ![256, 128]⟩
abbrev S128 : Shape := ⟨1, ![128]⟩
abbrev S128x3 : Shape := ⟨2, ![128, 3]⟩
abbrev S3 : Shape := ⟨1, ![3]⟩
abbrev S32768 : Shape := ⟨1, ![32768]⟩
abbrev S16 : Shape := ⟨1, ![16]⟩
abbrev S1x16 : Shape := ⟨2, ![1, 16]⟩
abbrev S32768x1 : Shape := ⟨2, ![32768, 1]⟩
abbrev S32768x16 : Shape := ⟨2, ![32768, 16]⟩
abbrev S_ : Shape := ⟨0, ![]⟩
abbrev S16x96 : Shape := ⟨2, ![16, 96]⟩
abbrev S16x1 : Shape := ⟨2, ![16, 1]⟩
abbrev S16x256 : Shape := ⟨2, ![16, 256]⟩
abbrev S1x256 : Shape := ⟨2, ![1, 256]⟩
abbrev S16x128 : Shape := ⟨2, ![16, 128]⟩
abbrev S1x128 : Shape := ⟨2, ![1, 128]⟩
abbrev S1x3 : Shape := ⟨2, ![1, 3]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S32768x96, .f32⟩
  | .hbm, ⟨1, _⟩ => ⟨S17, .i32⟩
  | .hbm, ⟨2, _⟩ => ⟨S16x3, .f32⟩
  | .hbm, ⟨3, _⟩ => ⟨S96x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x3, .f32⟩
  | .hbm, ⟨16, _⟩ => ⟨S3, .f32⟩
  | .hbm, ⟨17, _⟩ => ⟨S32768, .i32⟩
  | .hbm, ⟨18, _⟩ => ⟨S16, .i32⟩
  | .hbm, ⟨19, _⟩ => ⟨S1x16, .i32⟩
  | .hbm, ⟨20, _⟩ => ⟨S32768x1, .i32⟩
  | .hbm, ⟨21, _⟩ => ⟨S32768x16, .i32⟩
  | .hbm, ⟨22, _⟩ => ⟨S32768x16, .i32⟩
  | .hbm, ⟨23, _⟩ => ⟨S32768x16, .i1⟩
  | .hbm, ⟨24, _⟩ => ⟨S32768x16, .i32⟩
  | .hbm, ⟨25, _⟩ => ⟨S_, .i32⟩
  | .hbm, ⟨26, _⟩ => ⟨S32768, .i32⟩
  | .hbm, ⟨27, _⟩ => ⟨S_, .f32⟩
  | .hbm, ⟨28, _⟩ => ⟨S16x96, .f32⟩
  | .hbm, ⟨29, _⟩ => ⟨S32768x1, .i32⟩
  | .hbm, ⟨30, _⟩ => ⟨S16x96, .f32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16x1, .f32⟩
  | .hbm, ⟨39, _⟩ => ⟨S16x96, .f32⟩
  | .hbm, ⟨40, _⟩ => ⟨S16x96, .f32⟩
  | .hbm, ⟨41, _⟩ => ⟨S16x256, .f32⟩
  | .hbm, ⟨42, _⟩ => ⟨S1x256, .f32⟩
  | .hbm, ⟨43, _⟩ => ⟨S16x256, .f32⟩
  | .hbm, ⟨44, _⟩ => ⟨S16x256, .f32⟩
  | .hbm, ⟨45, _⟩ => ⟨S1x256, .f32⟩
  | .hbm, ⟨46, _⟩ => ⟨S16x256, .f32⟩
  | .hbm, ⟨47, _⟩ => ⟨S16x256, .f32⟩
  | .hbm, ⟨48, _⟩ => ⟨S1x256, .f32⟩
  | .hbm, ⟨49, _⟩ => ⟨S16x256, .f32⟩
  | .hbm, ⟨50, _⟩ => ⟨S16x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S16x256, .f32⟩
  | .hbm, ⟨57, _⟩ => ⟨S16x256, .f32⟩
  | .hbm, ⟨58, _⟩ => ⟨S1x256, .f32⟩
  | .hbm, ⟨59, _⟩ => ⟨S16x256, .f32⟩
  | .hbm, ⟨60, _⟩ => ⟨S16x256, .f32⟩
  | .hbm, ⟨61, _⟩ => ⟨S_, .f32⟩
  | .hbm, ⟨62, _⟩ => ⟨S16x256, .f32⟩
  | .hbm, ⟨63, _⟩ => ⟨S16x256, .f32⟩
  | .hbm, ⟨64, _⟩ => ⟨S16x128, .f32⟩
  | .hbm, ⟨65, _⟩ => ⟨S1x128, .f32⟩
  | .hbm, ⟨66, _⟩ => ⟨S16x128, .f32⟩
  | .hbm, ⟨67, _⟩ => ⟨S16x128, .f32⟩
  | .hbm, ⟨68, _⟩ => ⟨S1x128, .f32⟩
  | .hbm, ⟨69, _⟩ => ⟨S16x128, .f32⟩
  | .hbm, ⟨70, _⟩ => ⟨S16x128, .f32⟩
  | .hbm, ⟨71, _⟩ => ⟨S1x128, .f32⟩
  | .hbm, ⟨72, _⟩ => ⟨S16x128, .f32⟩
  | .hbm, ⟨73, _⟩ => ⟨S16x128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S16x128, .f32⟩
  | .hbm, ⟨80, _⟩ => ⟨S16x128, .f32⟩
  | .hbm, ⟨81, _⟩ => ⟨S1x128, .f32⟩
  | .hbm, ⟨82, _⟩ => ⟨S16x128, .f32⟩
  | .hbm, ⟨83, _⟩ => ⟨S16x128, .f32⟩
  | .hbm, ⟨84, _⟩ => ⟨S_, .f32⟩
  | .hbm, ⟨85, _⟩ => ⟨S16x128, .f32⟩
  | .hbm, ⟨86, _⟩ => ⟨S16x128, .f32⟩
  | .hbm, ⟨87, _⟩ => ⟨S16x3, .f32⟩
  | .hbm, ⟨88, _⟩ => ⟨S1x3, .f32⟩
  | .hbm, ⟨89, _⟩ => ⟨S16x3, .f32⟩
  | .hbm, ⟨90, _⟩ => ⟨S16x3, .f32⟩
  | .hbm, ⟨91, _⟩ => ⟨S16x3, .f32⟩
  | .hbm, ⟨92, _⟩ => ⟨S16x3, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S16x3, .f32⟩
  | .hbm, ⟨98, _⟩ => ⟨S_, .f32⟩
  | .hbm, ⟨99, _⟩ => ⟨S16, .f32⟩
  | .hbm, ⟨100, _⟩ => ⟨S16x3, .f32⟩
  | .hbm, ⟨101, _⟩ => ⟨S_, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S16, .f32⟩
  | .hbm, ⟨106, _⟩ => ⟨S16, .f32⟩
  | .hbm, ⟨107, _⟩ => ⟨S16x3, .f32⟩
  | .hbm, ⟨108, _⟩ => ⟨S_, .f32⟩
  | .hbm, ⟨109, _⟩ => ⟨S16, .f32⟩
  | .hbm, ⟨110, _⟩ => ⟨S16, .f32⟩
  | .hbm, ⟨111, _⟩ => ⟨S_, .f32⟩
  | .hbm, ⟨112, _⟩ => ⟨S16, .f32⟩
  | .hbm, ⟨113, _⟩ => ⟨S16, .f32⟩
  | .hbm, ⟨114, _⟩ => ⟨S16, .f32⟩
  | .hbm, ⟨115, _⟩ => ⟨S16, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S1x1, .f32⟩
  | .hbm, ⟨121, _⟩ => ⟨S1x1, .f32⟩
  | _, _ => ⟨S32768x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_3 : Ref sig .tc := ⟨.hbm, 93, rfl⟩
abbrev main_v67 : Ref sig .tc := ⟨.hbm, 94, rfl⟩
abbrev main_cst_4 : Ref sig .tc := ⟨.hbm, 95, rfl⟩
abbrev main_v68 : Ref sig .tc := ⟨.hbm, 96, rfl⟩
abbrev main_v69 : Ref sig .tc := ⟨.hbm, 97, rfl⟩
abbrev main_cst_5 : Ref sig .tc := ⟨.hbm, 98, rfl⟩
abbrev main_v70 : Ref sig .tc := ⟨.hbm, 99, rfl⟩
abbrev main_call2_v0 : Ref sig .tc := ⟨.hbm, 100, rfl⟩
abbrev main_call2_cst : Ref sig .tc := ⟨.hbm, 101, rfl⟩
abbrev main_call2_v1 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_call3_v0 : Ref sig .tc := ⟨.hbm, 107, rfl⟩
abbrev main_call3_cst : Ref sig .tc := ⟨.hbm, 108, rfl⟩
abbrev main_call3_v1 : Ref sig .tc := ⟨.hbm, 109, rfl⟩
abbrev main_v74 : Ref sig .tc := ⟨.hbm, 110, rfl⟩
abbrev main_cst_7 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_8 : Ref sig .tc := ⟨.hbm, 116, rfl⟩
abbrev main_v79 : Ref sig .tc := ⟨.hbm, 117, rfl⟩
abbrev main_cst_9 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== Proof.Steps.lean ====
/-
  What one grid point of the kernel leaves behind, in terms of the blocks it reads: every point adds the masked
  row sums of its 4096 rows to the accumulator (the first point starts from zeros), and the last point computes the
  three results from the accumulator it has just completed.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Steps

open Cert.KernelIdeal Cert.KernelIdeal.Gen Cert.KernelIdeal.Value

variable {F : FTy → Type} [FloatOps F]
variable (m : (ℓ : Loc nD τ sig) → Buf (Elt F) ℓ)

theorem zero2 : (![0, 0] : Fin 2 → Nat) = fun _ => 0 := funext fun a => by fin_cases a <;> rfl

/-- The scratch buffer, set to `x`, reads back `x`. -/
theorem scratch_read (x : Vec F S16x96 .f32) :
    View.read (Elt F) (View.whole cc0_scratch0) ((Memref.isWhole_whole cc0_scratch0).unread x) = x :=
  (Memref.isWhole_whole cc0_scratch0).read_unread x

/-- The first point starts the accumulator at zero and adds its rows' masked sums. -/
theorem step_first (c : Dev nD) (t : Fin cfg0.N)
    (acc : Vec F S16x3 .f32 × Vec F S1x1 .f32 × Vec F S1x1 .f32 × Vec F S16x96 .f32)
    (h0 : t.val % 8 = 0) (h1 : ¬t.val % 8 = 7) :
    (stAt0 m c t.val t.isLt acc).2.2.2
      = k0_pay4 (grid0.coords t) (iblk m c 0 t) (iblk m c 1 t) k0_pay1 (iblk m c 2 t) := by
  rw [stAt0_A m c t acc h0 h1]
  dsimp only
  unfold sout0_A_0
  rw [View.read_writes_eq_canon _ _ _ (scover0_A_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero (S := S16x96) zero2, View.readCov_unit_zero (S := S16x96) _ zero2]
  simp only [View.readAt_eq_ld, Memref.IsWhole.read_unread, View.ld_unit_zero (S := S16x1) zero2, View.ld_unit_zero (S := S16x96) zero2,
    View.ld_unit_zero (S := S4096x96) zero2, View.ld_unit_zero (S := S16x3) zero2, View.ld_unit_zero (S := S96x256) zero2,
    View.ld_unit_zero (S := S1x256) zero2, View.ld_unit_zero (S := S256x128) zero2, View.ld_unit_zero (S := S1x128) zero2,
    View.ld_unit_zero (S := S128x3) zero2, View.ld_unit_zero (S := S1x3) zero2]

/-- A middle point adds its rows' masked sums. -/
theorem step_middle (c : Dev nD) (t : Fin cfg0.N)
    (acc : Vec F S16x3 .f32 × Vec F S1x1 .f32 × Vec F S1x1 .f32 × Vec F S16x96 .f32)
    (h0 : ¬t.val % 8 = 0) (h1 : ¬t.val % 8 = 7) :
    (stAt0 m c t.val t.isLt acc).2.2.2
      = k0_pay4 (grid0.coords t) (iblk m c 0 t) (iblk m c 1 t) acc.2.2.2 (iblk m c 2 t) := by
  rw [stAt0_B m c t acc h0 h1]
  dsimp only
  unfold sout0_B_0
  rw [View.read_writes_eq_canon _ _ _ (scover0_B_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S16x96) zero2]
  simp only [View.readAt_eq_ld, Memref.IsWhole.read_unread, View.ld_unit_zero (S := S16x1) zero2, View.ld_unit_zero (S := S16x96) zero2,
    View.ld_unit_zero (S := S4096x96) zero2, View.ld_unit_zero (S := S16x3) zero2, View.ld_unit_zero (S := S96x256) zero2,
    View.ld_unit_zero (S := S1x256) zero2, View.ld_unit_zero (S := S256x128) zero2, View.ld_unit_zero (S := S1x128) zero2,
    View.ld_unit_zero (S := S128x3) zero2, View.ld_unit_zero (S := S1x3) zero2]
  rw [scratch_read]

/-- The accumulator the last point completes before it computes the results. -/
def total (c : Dev nD) (t : Fin cfg0.N) (a : Vec F S16x96 .f32) : FVec F S16x96 .f32 :=
  k0_pay4 (grid0.coords t) (iblk m c 0 t) (iblk m c 1 t) a (iblk m c 2 t)

/-- The last point's first layer, its product with the second layer's weights. -/
def hidden (c : Dev nD) (t : Fin cfg0.N) (a : Vec F S16x96 .f32) : FVec F S16x128 .f32 :=
  k0_pay7 (k0_pay2 (iblk m c 0 t)) (k0_pay3 (iblk m c 1 t)) (total m c t a) (iblk m c 4 t) (iblk m c 5 t)
    (iblk m c 6 t) (iblk m c 8 t) (iblk m c 9 t) (iblk m c 7 t) (iblk m c 10 t)

/-- The last point's prediction. -/
def predicted (c : Dev nD) (t : Fin cfg0.N) (a : Vec F S16x96 .f32) : FVec F S16x3 .f32 :=
  k0_pay8 (hidden m c t a) (iblk m c 11 t) (iblk m c 12 t) (iblk m c 14 t) (iblk m c 15 t) (iblk m c 13 t)
    (iblk m c 16 t) (iblk m c 17 t)

/-- The last point's sum of squared errors. -/
def squares (c : Dev nD) (t : Fin cfg0.N) (a : Vec F S16x96 .f32) : F .f32 :=
  k0_pay9 (hidden m c t a) (iblk m c 11 t) (iblk m c 12 t) (iblk m c 14 t) (iblk m c 15 t) (iblk m c 13 t)
    (iblk m c 16 t) (iblk m c 17 t) (iblk m c 3 t)

/-- The last point writes the prediction. -/
theorem step_pred (c : Dev nD) (t : Fin cfg0.N)
    (acc : Vec F S16x3 .f32 × Vec F S1x1 .f32 × Vec F S1x1 .f32 × Vec F S16x96 .f32)
    (h0 : ¬t.val % 8 = 0) (h1 : t.val % 8 = 7) :
    (stAt0 m c t.val t.isLt acc).1 = predicted m c t acc.2.2.2 := by
  rw [stAt0_C m c t acc h0 h1]
  dsimp only
  unfold out0_C_18
  rw [View.read_writes_eq_canon _ _ _ (cover0_C_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S16x3) zero2]
  simp only [View.readCov_unit_zero (S := S16x96) _ zero2]
  simp only [View.readAt_eq_ld, Memref.IsWhole.read_unread, View.ld_unit_zero (S := S16x1) zero2, View.ld_unit_zero (S := S16x96) zero2,
    View.ld_unit_zero (S := S4096x96) zero2, View.ld_unit_zero (S := S16x3) zero2, View.ld_unit_zero (S := S96x256) zero2,
    View.ld_unit_zero (S := S1x256) zero2, View.ld_unit_zero (S := S256x128) zero2, View.ld_unit_zero (S := S1x128) zero2,
    View.ld_unit_zero (S := S128x3) zero2, View.ld_unit_zero (S := S1x3) zero2]
  rw [scratch_read]
  rfl

/-- The last point writes the mean squared error. -/
theorem step_loss (c : Dev nD) (t : Fin cfg0.N)
    (acc : Vec F S16x3 .f32 × Vec F S1x1 .f32 × Vec F S1x1 .f32 × Vec F S16x96 .f32)
    (h0 : ¬t.val % 8 = 0) (h1 : t.val % 8 = 7) :
    (stAt0 m c t.val t.isLt acc).2.1 = k0_pay5 (squares m c t acc.2.2.2) (Scalar.ofBits .f32 0x42400000#32) := by
  rw [stAt0_C m c t acc h0 h1]
  dsimp only
  unfold out0_C_19
  rw [View.read_writes_eq_canon _ _ _ (cover0_C_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x1) zero2]
  simp only [View.readCov_unit_zero (S := S16x96) _ zero2]
  simp only [View.readAt_eq_ld, Memref.IsWhole.read_unread, View.ld_unit_zero (S := S16x1) zero2, View.ld_unit_zero (S := S16x96) zero2,
    View.ld_unit_zero (S := S4096x96) zero2, View.ld_unit_zero (S := S16x3) zero2, View.ld_unit_zero (S := S96x256) zero2,
    View.ld_unit_zero (S := S1x256) zero2, View.ld_unit_zero (S := S256x128) zero2, View.ld_unit_zero (S := S1x128) zero2,
    View.ld_unit_zero (S := S128x3) zero2, View.ld_unit_zero (S := S1x3) zero2]
  rw [scratch_read]
  rfl

/-- The last point writes the mean cosine. -/
theorem step_cos (c : Dev nD) (t : Fin cfg0.N)
    (acc : Vec F S16x3 .f32 × Vec F S1x1 .f32 × Vec F S1x1 .f32 × Vec F S16x96 .f32)
    (h0 : ¬t.val % 8 = 0) (h1 : t.val % 8 = 7) :
    (stAt0 m c t.val t.isLt acc).2.2.1 = k0_pay6 (predicted m c t acc.2.2.2) (iblk m c 3 t) := by
  rw [stAt0_C m c t acc h0 h1]
  dsimp only
  unfold out0_C_20
  rw [View.read_writes_eq_canon _ _ _ (cover0_C_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x1) zero2]
  simp only [View.readCov_unit_zero (S := S16x96) _ zero2]
  simp only [View.readAt_eq_ld, Memref.IsWhole.read_unread, View.ld_unit_zero (S := S16x1) zero2, View.ld_unit_zero (S := S16x96) zero2,
    View.ld_unit_zero (S := S4096x96) zero2, View.ld_unit_zero (S := S16x3) zero2, View.ld_unit_zero (S := S96x256) zero2,
    View.ld_unit_zero (S := S1x256) zero2, View.ld_unit_zero (S := S256x128) zero2, View.ld_unit_zero (S := S1x128) zero2,
    View.ld_unit_zero (S := S128x3) zero2, View.ld_unit_zero (S := S1x3) zero2]
  rw [scratch_read]
  rfl

end Cert.KernelIdeal.Steps

end
-- ==== Proof.Blocks.lean ====
/-
  The kernel's input blocks in terms of the arguments: the segment starts and ends are two slices of the offsets, the
  feature block of point `t` is rows `4096 t` to `4096 t + 4095`, and every other window is its whole array at every
  point, the vectors as one row.
-/
module

public import proofs.«01_k».proof.Proof.Gen.KernelIdeal.Frame
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The segment starts: the first sixteen offsets, as a column. -/
theorem starts_eq (c : Dev nD) : V m c main_v1
    = shapeCast S16x1 (extractStridedSlice S16 ![0] (m ((c : Thread nD τ).loc main_arg1)) slices_S17_S16_0) shapeCasts_S16_S16x1 := by
  dsimp only [V, hostOps0]
  after_results
  rfl

/-- The segment ends: the last sixteen offsets, as a column. -/
theorem ends_eq (c : Dev nD) : V m c main_v3
    = shapeCast S16x1 (extractStridedSlice S16 ![1] (m ((c : Thread nD τ).loc main_arg1)) slices_S17_S16_1) shapeCasts_S16_S16x1 := by
  dsimp only [V, hostOps0]
  after_results
  rfl

theorem main_v4_eq (c : Dev nD) : V m c main_v4 = shapeCast S1x256 (m ((c : Thread nD τ).loc main_arg4)) shapeCasts_S256_S1x256 := by
  dsimp only [V, hostOps0]
  after_results
  rfl

theorem main_v5_eq (c : Dev nD) : V m c main_v5 = shapeCast S1x256 (m ((c : Thread nD τ).loc main_arg5)) shapeCasts_S256_S1x256 := by
  dsimp only [V, hostOps0]
  after_results
  rfl

theorem main_v6_eq (c : Dev nD) : V m c main_v6 = shapeCast S1x256 (m ((c : Thread nD τ).loc main_arg6)) shapeCasts_S256_S1x256 := by
  dsimp only [V, hostOps0]
  after_results
  rfl

theorem main_v7_eq (c : Dev nD) : V m c main_v7 = shapeCast S1x256 (m ((c : Thread nD τ).loc main_arg7)) shapeCasts_S256_S1x256 := by
  dsimp only [V, hostOps0]
  after_results
  rfl

theorem main_v8_eq (c : Dev nD) : V m c main_v8 = shapeCast S1x256 (m ((c : Thread nD τ).loc main_arg8)) shapeCasts_S256_S1x256 := by
  dsimp only [V, hostOps0]
  after_results
  rfl

theorem main_v9_eq (c : Dev nD) : V m c main_v9 = shapeCast S1x128 (m ((c : Thread nD τ).loc main_arg10)) shapeCasts_S128_S1x128 := by
  dsimp only [V, hostOps0]
  after_results
  rfl

theorem main_v10_eq (c : Dev nD) : V m c main_v10 = shapeCast S1x128 (m ((c : Thread nD τ).loc main_arg11)) shapeCasts_S128_S1x128 := by
  dsimp only [V, hostOps0]
  after_results
  rfl

theorem main_v11_eq (c : Dev nD) : V m c main_v11 = shapeCast S1x128 (m ((c : Thread nD τ).loc main_arg12)) shapeCasts_S128_S1x128 := by
  dsimp only [V, hostOps0]
  after_results
  rfl

theorem main_v12_eq (c : Dev nD) : V m c main_v12 = shapeCast S1x128 (m ((c : Thread nD τ).loc main_arg13)) shapeCasts_S128_S1x128 := by
  dsimp only [V, hostOps0]
  after_results
  rfl

theorem main_v13_eq (c : Dev nD) : V m c main_v13 = shapeCast S1x128 (m ((c : Thread nD τ).loc main_arg14)) shapeCasts_S128_S1x128 := by
  dsimp only [V, hostOps0]
  after_results
  rfl

theorem main_v14_eq (c : Dev nD) : V m c main_v14 = shapeCast S1x3 (m ((c : Thread nD τ).loc main_arg16)) shapeCasts_S3_S1x3 := by
  dsimp only [V, hostOps0]
  after_results
  rfl

/-- Window 0 is its whole array. -/
theorem whole_0 (c : Dev nD) (t : Fin cfg0.N) : (iblk m c 0 t : Vec F S16x1 .i32) = V m c main_v1 := by
  have hz : (fun a => win0_0.index t a * S16x1.size a) = fun _ => 0 := funext fun a => by fin_cases a <;> exact Nat.zero_mul _
  exact Memref.read_access_unit_zero (Elt F) main_v1 hz (fun a => by rw [congrFun hz a]; simp) (V m c main_v1)

/-- Window 1 is its whole array. -/
theorem whole_1 (c : Dev nD) (t : Fin cfg0.N) : (iblk m c 1 t : Vec F S16x1 .i32) = V m c main_v3 := by
  have hz : (fun a => win0_1.index t a * S16x1.size a) = fun _ => 0 := funext fun a => by fin_cases a <;> exact Nat.zero_mul _
  exact Memref.read_access_unit_zero (Elt F) main_v3 hz (fun a => by rw [congrFun hz a]; simp) (V m c main_v3)

/-- Window 3 is its whole array. -/
theorem whole_3 (c : Dev nD) (t : Fin cfg0.N) : (iblk m c 3 t : Vec F S16x3 .f32) = V m c main_arg2 := by
  have hz : (fun a => win0_3.index t a * S16x3.size a) = fun _ => 0 := funext fun a => by fin_cases a <;> exact Nat.zero_mul _
  exact Memref.read_access_unit_zero (Elt F) main_arg2 hz (fun a => by rw [congrFun hz a]; simp) (V m c main_arg2)

/-- Window 4 is its whole array. -/
theorem whole_4 (c : Dev nD) (t : Fin cfg0.N) : (iblk m c 4 t : Vec F S96x256 .f32) = V m c main_arg3 := by
  have hz : (fun a => win0_4.index t a * S96x256.size a) = fun _ => 0 := funext fun a => by fin_cases a <;> exact Nat.zero_mul _
  exact Memref.read_access_unit_zero (Elt F) main_arg3 hz (fun a => by rw [congrFun hz a]; simp) (V m c main_arg3)

/-- Window 5 is its whole array. -/
theorem whole_5 (c : Dev nD) (t : Fin cfg0.N) : (iblk m c 5 t : Vec F S1x256 .f32) = V m c main_v4 := by
  have hz : (fun a => win0_5.index t a * S1x256.size a) = fun _ => 0 := funext fun a => by fin_cases a <;> exact Nat.zero_mul _
  exact Memref.read_access_unit_zero (Elt F) main_v4 hz (fun a => by rw [congrFun hz a]; simp) (V m c main_v4)

/-- Window 6 is its whole array. -/
theorem whole_6 (c : Dev nD) (t : Fin cfg0.N) : (iblk m c 6 t : Vec F S1x256 .f32) = V m c main_v5 := by
  have hz : (fun a => win0_6.index t a * S1x256.size a) = fun _ => 0 := funext fun a => by fin_cases a <;> exact Nat.zero_mul _
  exact Memref.read_access_unit_zero (Elt F) main_v5 hz (fun a => by rw [congrFun hz a]; simp) (V m c main_v5)

/-- Window 7 is its whole array. -/
theorem whole_7 (c : Dev nD) (t : Fin cfg0.N) : (iblk m c 7 t : Vec F S1x256 .f32) = V m c main_v6 := by
  have hz : (fun a => win0_7.index t a * S1x256.size a) = fun _ => 0 := funext fun a => by fin_cases a <;> exact Nat.zero_mul _
  exact Memref.read_access_unit_zero (Elt F) main_v6 hz (fun a => by rw [congrFun hz a]; simp) (V m c main_v6)

/-- Window 8 is its whole array. -/
theorem whole_8 (c : Dev nD) (t : Fin cfg0.N) : (iblk m c 8 t : Vec F S1x256 .f32) = V m c main_v7 := by
  have hz : (fun a => win0_8.index t a * S1x256.size a) = fun _ => 0 := funext fun a => by fin_cases a <;> exact Nat.zero_mul _
  exact Memref.read_access_unit_zero (Elt F) main_v7 hz (fun a => by rw [congrFun hz a]; simp) (V m c main_v7)

/-- Window 9 is its whole array. -/
theorem whole_9 (c : Dev nD) (t : Fin cfg0.N) : (iblk m c 9 t : Vec F S1x256 .f32) = V m c main_v8 := by
  have hz : (fun a => win0_9.index t a * S1x256.size a) = fun _ => 0 := funext fun a => by fin_cases a <;> exact Nat.zero_mul _
  exact Memref.read_access_unit_zero (Elt F) main_v8 hz (fun a => by rw [congrFun hz a]; simp) (V m c main_v8)

/-- Window 10 is its whole array. -/
theorem whole_10 (c : Dev nD) (t : Fin cfg0.N) : (iblk m c 10 t : Vec F S256x128 .f32) = V m c main_arg9 := by
  have hz : (fun a => win0_10.index t a * S256x128.size a) = fun _ => 0 := funext fun a => by fin_cases a <;> exact Nat.zero_mul _
  exact Memref.read_access_unit_zero (Elt F) main_arg9 hz (fun a => by rw [congrFun hz a]; simp) (V m c main_arg9)

/-- Window 11 is its whole array. -/
theorem whole_11 (c : Dev nD) (t : Fin cfg0.N) : (iblk m c 11 t : Vec F S1x128 .f32) = V m c main_v9 := by
  have hz : (fun a => win0_11.index t a * S1x128.size a) = fun _ => 0 := funext fun a => by fin_cases a <;> exact Nat.zero_mul _
  exact Memref.read_access_unit_zero (Elt F) main_v9 hz (fun a => by rw [congrFun hz a]; simp) (V m c main_v9)

/-- Window 12 is its whole array. -/
theorem whole_12 (c : Dev nD) (t : Fin cfg0.N) : (iblk m c 12 t : Vec F S1x128 .f32) = V m c main_v10 := by
  have hz : (fun a => win0_12.index t a * S1x128.size a) = fun _ => 0 := funext fun a => by fin_cases a <;> exact Nat.zero_mul _
  exact Memref.read_access_unit_zero (Elt F) main_v10 hz (fun a => by rw [congrFun hz a]; simp) (V m c main_v10)

/-- Window 13 is its whole array. -/
theorem whole_13 (c : Dev nD) (t : Fin cfg0.N) : (iblk m c 13 t : Vec F S1x128 .f32) = V m c main_v11 := by
  have hz : (fun a => win0_13.index t a * S1x128.size a) = fun _ => 0 := funext fun a => by fin_cases a <;> exact Nat.zero_mul _
  exact Memref.read_access_unit_zero (Elt F) main_v11 hz (fun a => by rw [congrFun hz a]; simp) (V m c main_v11)

/-- Window 14 is its whole array. -/
theorem whole_14 (c : Dev nD) (t : Fin cfg0.N) : (iblk m c 14 t : Vec F S1x128 .f32) = V m c main_v12 := by
  have hz : (fun a => win0_14.index t a * S1x128.size a) = fun _ => 0 := funext fun a => by fin_cases a <;> exact Nat.zero_mul _
  exact Memref.read_access_unit_zero (Elt F) main_v12 hz (fun a => by rw [congrFun hz a]; simp) (V m c main_v12)

/-- Window 15 is its whole array. -/
theorem whole_15 (c : Dev nD) (t : Fin cfg0.N) : (iblk m c 15 t : Vec F S1x128 .f32) = V m c main_v13 := by
  have hz : (fun a => win0_15.index t a * S1x128.size a) = fun _ => 0 := funext fun a => by fin_cases a <;> exact Nat.zero_mul _
  exact Memref.read_access_unit_zero (Elt F) main_v13 hz (fun a => by rw [congrFun hz a]; simp) (V m c main_v13)

/-- Window 16 is its whole array. -/
theorem whole_16 (c : Dev nD) (t : Fin cfg0.N) : (iblk m c 16 t : Vec F S128x3 .f32) = V m c main_arg15 := by
  have hz : (fun a => win0_16.index t a * S128x3.size a) = fun _ => 0 := funext fun a => by fin_cases a <;> exact Nat.zero_mul _
  exact Memref.read_access_unit_zero (Elt F) main_arg15 hz (fun a => by rw [congrFun hz a]; simp) (V m c main_arg15)

/-- Window 17 is its whole array. -/
theorem whole_17 (c : Dev nD) (t : Fin cfg0.N) : (iblk m c 17 t : Vec F S1x3 .f32) = V m c main_v14 := by
  have hz : (fun a => win0_17.index t a * S1x3.size a) = fun _ => 0 := funext fun a => by fin_cases a <;> exact Nat.zero_mul _
  exact Memref.read_access_unit_zero (Elt F) main_v14 hz (fun a => by rw [congrFun hz a]; simp) (V m c main_v14)

/-- Segment `b` starts at offset `b`. -/
theorem start_apply (c : Dev nD) (t : Fin cfg0.N) (b : Fin 16) (u : Fin 1) :
    (iblk m c 0 t : Vec F S16x1 .i32) (ix2 b u) = m ((c : Thread nD τ).loc main_arg1) (ix1 (b.castSucc : Fin 17)) := by
  rw [whole_0, starts_eq]
  refine (shapeCast_a_a1_apply _ _ b u).trans ?_
  refine extractStridedSlice_apply _ _ _ _ _ fun a => ?_
  match a with
  | ⟨0, _⟩ => show b.val = 0 + b.val; omega

/-- Segment `b` ends at offset `b + 1`. -/
theorem end_apply (c : Dev nD) (t : Fin cfg0.N) (b : Fin 16) (u : Fin 1) :
    (iblk m c 1 t : Vec F S16x1 .i32) (ix2 b u) = m ((c : Thread nD τ).loc main_arg1) (ix1 (b.succ : Fin 17)) := by
  rw [whole_1, ends_eq]
  refine (shapeCast_a_a1_apply _ _ b u).trans ?_
  refine extractStridedSlice_apply _ _ _ _ _ fun a => ?_
  match a with
  | ⟨0, _⟩ => show b.val + 1 = 1 + b.val; omega

theorem array_3 (c : Dev nD) (t : Fin cfg0.N) :
    (iblk m c 3 t : Vec F S16x3 .f32) = m ((c : Thread nD τ).loc main_arg2) := by
  rw [whole_3, V_main_arg2]

theorem array_4 (c : Dev nD) (t : Fin cfg0.N) :
    (iblk m c 4 t : Vec F S96x256 .f32) = m ((c : Thread nD τ).loc main_arg3) := by
  rw [whole_4, V_main_arg3]

theorem array_10 (c : Dev nD) (t : Fin cfg0.N) :
    (iblk m c 10 t : Vec F S256x128 .f32) = m ((c : Thread nD τ).loc main_arg9) := by
  rw [whole_10, V_main_arg9]

theorem array_16 (c : Dev nD) (t : Fin cfg0.N) :
    (iblk m c 16 t : Vec F S128x3 .f32) = m ((c : Thread nD τ).loc main_arg15) := by
  rw [whole_16, V_main_arg15]

theorem row_5 (c : Dev nD) (t : Fin cfg0.N) (u : Fin 1) (j : Fin 256) :
    (iblk m c 5 t : Vec F S1x256 .f32) (ix2 u j) = m ((c : Thread nD τ).loc main_arg4) (ix1 j) := by
  rw [whole_5, main_v4_eq]
  exact shapeCast_a_1a_apply _ _ u j

theorem row_6 (c : Dev nD) (t : Fin cfg0.N) (u : Fin 1) (j : Fin 256) :
    (iblk m c 6 t : Vec F S1x256 .f32) (ix2 u j) = m ((c : Thread nD τ).loc main_arg5) (ix1 j) := by
  rw [whole_6, main_v5_eq]
  exact shapeCast_a_1a_apply _ _ u j

theorem row_7 (c : Dev nD) (t : Fin cfg0.N) (u : Fin 1) (j : Fin 256) :
    (iblk m c 7 t : Vec F S1x256 .f32) (ix2 u j) = m ((c : Thread nD τ).loc main_arg6) (ix1 j) := by
  rw [whole_7, main_v6_eq]
  exact shapeCast_a_1a_apply _ _ u j

theorem row_8 (c : Dev nD) (t : Fin cfg0.N) (u : Fin 1) (j : Fin 256) :
    (iblk m c 8 t : Vec F S1x256 .f32) (ix2 u j) = m ((c : Thread nD τ).loc main_arg7) (ix1 j) := by
  rw [whole_8, main_v7_eq]
  exact shapeCast_a_1a_apply _ _ u j

theorem row_9 (c : Dev nD) (t : Fin cfg0.N) (u : Fin 1) (j : Fin 256) :
    (iblk m c 9 t : Vec F S1x256 .f32) (ix2 u j) = m ((c : Thread nD τ).loc main_arg8) (ix1 j) := by
  rw [whole_9, main_v8_eq]
  exact shapeCast_a_1a_apply _ _ u j

theorem row_11 (c : Dev nD) (t : Fin cfg0.N) (u : Fin 1) (j : Fin 128) :
    (iblk m c 11 t : Vec F S1x128 .f32) (ix2 u j) = m ((c : Thread nD τ).loc main_arg10) (ix1 j) := by
  rw [whole_11, main_v9_eq]
  exact shapeCast_a_1a_apply _ _ u j

theorem row_12 (c : Dev nD) (t : Fin cfg0.N) (u : Fin 1) (j : Fin 128) :
    (iblk m c 12 t : Vec F S1x128 .f32) (ix2 u j) = m ((c : Thread nD τ).loc main_arg11) (ix1 j) := by
  rw [whole_12, main_v10_eq]
  exact shapeCast_a_1a_apply _ _ u j

theorem row_13 (c : Dev nD) (t : Fin cfg0.N) (u : Fin 1) (j : Fin 128) :
    (iblk m c 13 t : Vec F S1x128 .f32) (ix2 u j) = m ((c : Thread nD τ).loc main_arg12) (ix1 j) := by
  rw [whole_13, main_v11_eq]
  exact shapeCast_a_1a_apply _ _ u j

theorem row_14 (c : Dev nD) (t : Fin cfg0.N) (u : Fin 1) (j : Fin 128) :
    (iblk m c 14 t : Vec F S1x128 .f32) (ix2 u j) = m ((c : Thread nD τ).loc main_arg13) (ix1 j) := by
  rw [whole_14, main_v12_eq]
  exact shapeCast_a_1a_apply _ _ u j

theorem row_15 (c : Dev nD) (t : Fin cfg0.N) (u : Fin 1) (j : Fin 128) :
    (iblk m c 15 t : Vec F S1x128 .f32) (ix2 u j) = m ((c : Thread nD τ).loc main_arg14) (ix1 j) := by
  rw [whole_15, main_v13_eq]
  exact shapeCast_a_1a_apply _ _ u j

theorem row_17 (c : Dev nD) (t : Fin cfg0.N) (u : Fin 1) (j : Fin 3) :
    (iblk m c 17 t : Vec F S1x3 .f32) (ix2 u j) = m ((c : Thread nD τ).loc main_arg16) (ix1 j) := by
  rw [whole_17, main_v14_eq]
  exact shapeCast_a_1a_apply _ _ u j

/-- Row `r` of point `t`'s feature block is row `4096 t + r` of the features. -/
theorem feat_apply (c : Dev nD) (t : Fin cfg0.N) (r : Fin 4096) (k : Fin 96) (i : Fin 32768) (hi : i.val = 4096 * t.val + r.val) :
    (iblk m c 2 t : Vec F S4096x96 .f32) (ix2 r k) = m ((c : Thread nD τ).loc main_arg0) (ix2 i k) := by
  have hN : cfg0.N = 8 := N_0
  have ht := t.isLt
  have h0 : win0_2.index t (0 : Fin 2) = t.val :=
    (by decide +kernel : ∀ s : Fin grid0.N, win0_2.index s (0 : Fin 2) = s.val) t
  have h1 : win0_2.index t (1 : Fin 2) = 0 := rfl
  rw [← V_main_arg0 m c]
  show V m c main_arg0 _ = V m c main_arg0 _
  refine congrArg (V m c main_arg0) (funext fun a => Fin.ext ?_)
  match a with
  | ⟨0, _⟩ =>
    show win0_2.index t (0 : Fin 2) * 4096 + 1 * r.val = i.val
    rw [h0]; omega
  | ⟨1, _⟩ =>
    show win0_2.index t (1 : Fin 2) * 96 + 1 * k.val = k.val
    rw [h1]; omega

end Cert.KernelIdeal.Blocks

end
-- ==== Proof.Pooling.lean ====
/-
  The kernel's accumulator. One grid point multiplies a 0/1 mask by its 4096 rows of features, so it adds to segment
  `b` exactly those of its rows that lie from offset `b` up to offset `b + 1`; over the eight points that is the sum
  over all 32768 rows.
-/
module

public import proofs.«01_k».proof.Proof.Steps
public import proofs.«01_k».proof.Proof.Blocks
public import Idealize.ShloMosaic.Lib.MatmulPlain
public import Idealize.ShloMosaic.Lib.WordCmp
public import Idealize.ShloMosaic.Lib.ValueIdx
public import Idealize.ShloMosaic.Lib.Pipeline.Kit

@[expose] public section

noncomputable section

open Idealize.ShloMosaic Idealize.ShloMosaic.TcCoe Idealize.ShloMosaic.ValueIdx Idealize.SL.Sem

namespace Cert.KernelIdeal.Pooling

open Cert.KernelIdeal Cert.KernelIdeal.Gen Cert.KernelIdeal.Value Cert.KernelIdeal.Steps Cert.KernelIdeal.Blocks

/-! ## One point's payload -/

/-- A column of sixteen words, spread over the 4096 rows of a block. -/
theorem spread_apply (v : IVec S16x1 32) (b : Fin 16) (r : Fin 4096) :
    broadcastTo S16x4096 v broadcasts_S16x1_S16x4096 (ix2 b r) = v (ix2 b (0 : Fin 1)) :=
  broadcastTo_apply v broadcasts_S16x1_S16x4096 (ix2 b r) (ix2 b (0 : Fin 1)) fun a => match a with
    | ⟨0, _⟩ => by show b.val = if (16 : Nat) = 1 then 0 else b.val; rw [if_neg (by decide)]
    | ⟨1, _⟩ => by show (0 : Nat) = if (1 : Nat) = 1 then 0 else r.val; rw [if_pos rfl]

/-- The word of row `r` of block `t`, read signed, is the row's number among all rows. -/
theorem row_word (t r : Nat) (ht : t < 8) (hr : r < 4096) :
    (BitVec.ofNat 32 r + BitVec.ofNat 32 t * 4096#32).toInt = ((4096 * t + r : Nat) : ℤ) := by
  have e : BitVec.ofNat 32 r + BitVec.ofNat 32 t * 4096#32 = BitVec.ofNat 32 (4096 * t + r) := by
    apply BitVec.eq_of_toNat_eq
    simp only [BitVec.toNat_add, BitVec.toNat_mul, BitVec.toNat_ofNat]
    omega
  rw [e]
  exact WordCmp.toInt_ofNat_of_lt (by omega)

theorem bit_toInt (p : Prop) [Decidable p] : ((BitVec.ofBool (decide p)).setWidth 32).toInt = if p then 1 else 0 := by
  by_cases h : p <;> simp [h]

/-- The mask at segment `b` and row `r`: one when the row's number is in the segment's range, zero otherwise. -/
theorem mask_apply (i : grid0.Coords) (lo hi : IVec S16x1 32) (b : Fin 16) (r : Fin 4096) (t : Nat) (hi0 : (i 0).val = t) (ht : t < 8) :
    (sitofp (F := Ideal) .f32 (extui 32 (andi
        (cmpi .sge (addi (iota .tc S16x4096 32 [1] iota_S16x4096_d1_w32)
            (broadcast S16x4096 (Scalar.muli (BitVec.ofNat 32 (i 0).val) 4096#32)))
          (broadcastTo S16x4096 lo broadcasts_S16x1_S16x4096))
        (cmpi .slt (addi (iota .tc S16x4096 32 [1] iota_S16x4096_d1_w32)
            (broadcast S16x4096 (Scalar.muli (BitVec.ofNat 32 (i 0).val) 4096#32)))
          (broadcastTo S16x4096 hi broadcasts_S16x1_S16x4096))) natLt_1_32) : FVec Ideal S16x4096 .f32) (ix2 b r)
      = if (lo (ix2 b (0 : Fin 1))).toInt ≤ ((4096 * t + r.val : Nat) : ℤ) ∧ ((4096 * t + r.val : Nat) : ℤ) < (hi (ix2 b (0 : Fin 1))).toInt
        then (1 : EReal) else 0 := by
  have hw : (addi (iota .tc S16x4096 32 [1] iota_S16x4096_d1_w32)
      (broadcast S16x4096 (Scalar.muli (BitVec.ofNat 32 (i 0).val) 4096#32)) (ix2 b r)).toInt = ((4096 * t + r.val : Nat) : ℤ) := by
    rw [hi0, ← row_word t r.val ht r.isLt]
    show (BitVec.ofNat 32 (0 * 4096 + r.val) + BitVec.ofNat 32 t * 4096#32).toInt = _
    rw [Nat.zero_mul, Nat.zero_add]
  show ((((IntOp.andi (IntOp.cmpi .sge _ (broadcastTo S16x4096 lo broadcasts_S16x1_S16x4096 (ix2 b r)))
    (IntOp.cmpi .slt _ (broadcastTo S16x4096 hi broadcasts_S16x1_S16x4096 (ix2 b r)))).setWidth 32).toInt : ℝ) : EReal) = _
  rw [spread_apply, spread_apply, WordCmp.cmpi_sge_eq, WordCmp.cmpi_slt_eq, WordCmp.andi_ofBool, hw, ← Bool.decide_and, bit_toInt]
  split <;> simp

/-- One point's payload: what was there, and the rows of the block that lie in the segment. -/
theorem pay4_apply (i : grid0.Coords) (lo hi : Vec Ideal S16x1 .i32) (a : Vec Ideal S16x96 .f32) (x : Vec Ideal S4096x96 .f32)
    (b : Fin 16) (k : Fin 96) (t : Nat) (hi0 : (i 0).val = t) (ht : t < 8) :
    k0_pay4 i lo hi a x (ix2 b k) = a (ix2 b k) + ∑ r : Fin 4096,
      if (lo (ix2 b (0 : Fin 1))).toInt ≤ ((4096 * t + r.val : Nat) : ℤ) ∧ ((4096 * t + r.val : Nat) : ℤ) < (hi (ix2 b (0 : Fin 1))).toInt
      then x (ix2 r k) else 0 := by
  unfold k0_pay4 k0_pay2 k0_pay3
  dsimp only
  rw [shapeCast_self, shapeCast_self, shapeCast_self, addf_apply]
  refine congrArg (a (ix2 b k) + ·) ?_
  refine (Ideal.matmul_plain_apply (M := 16) (K := 4096) (N := 96) (some .fp32) _ x (constant S16x96 .f32 0x00000000#32) b k).trans ?_
  rw [constant_apply, Ideal.ofBits_zero_f32, zero_add]
  refine Finset.sum_congr rfl fun r _ => ?_
  rw [mask_apply i lo hi b r t hi0 ht]
  split
  · exact one_mul _
  · exact zero_mul _

theorem pay1_apply (b : Fin 16) (k : Fin 96) : (k0_pay1 (F := Ideal)) (ix2 b k) = (0 : EReal) := by
  unfold k0_pay1
  rw [shapeCast_self]
  exact Ideal.ofBits_zero_f32

/-! ## The eight points together -/

variable (m : (ℓ : Loc nD τ sig) → Buf (Elt Ideal) ℓ)

/-- Offset `k`, read signed. -/
def off (c : Dev nD) (k : Fin 17) : ℤ :=
  (m ((c : Thread nD τ).loc main_arg1) (ix1 k) : BitVec 32).toInt

/-- Row `i`'s feature `k`. -/
def feature (c : Dev nD) (i : Fin 32768) (k : Fin 96) : EReal :=
  m ((c : Thread nD τ).loc main_arg0) (ix2 i k)

/-- Row `n`'s share of segment `b`, column `k`. -/
def share (c : Dev nD) (b : Fin 16) (k : Fin 96) (n : Nat) : EReal :=
  if h : n < 32768 then
    if off m c b.castSucc ≤ (n : ℤ) ∧ (n : ℤ) < off m c b.succ then feature m c ⟨n, h⟩ k else 0
  else 0

theorem coord_zero (t : Fin cfg0.N) : (grid0.coords t 0).val = t.val := by
  have hN : cfg0.N = 8 := N_0
  have ht := t.isLt
  have e := Pipeline.Grid.coords_val (G := grid0) t 0 (S := 1) (B := 8) (by decide) rfl
  omega

/-- What one point adds. -/
theorem total_apply (c : Dev nD) (t : Fin cfg0.N) (a : Vec Ideal S16x96 .f32) (b : Fin 16) (k : Fin 96) :
    total m c t a (ix2 b k) = a (ix2 b k) + ∑ r : Fin 4096, share m c b k (4096 * t.val + r.val) := by
  have hN : cfg0.N = 8 := N_0
  have ht := t.isLt
  unfold total
  rw [pay4_apply _ _ _ _ _ b k t.val (coord_zero t) (by omega), start_apply, end_apply]
  refine congrArg (a (ix2 b k) + ·) (Finset.sum_congr rfl fun r _ => ?_)
  have hr := r.isLt
  unfold share
  rw [dif_pos (by omega : 4096 * t.val + r.val < 32768),
    feat_apply m c t r k ⟨4096 * t.val + r.val, by omega⟩ rfl]
  rfl

/-- The accumulator after point `n`: the rows of the blocks so far. -/
theorem acc_apply (c : Dev nD) (b : Fin 16) (k : Fin 96) : ∀ (n : Nat) (h : 0 + n < cfg0.N), n < 7 →
    (Pipeline.accAt (fun n h => stAt0 m c n h junk0) (stAt0 m c) 0 n h).2.2.2 (ix2 b k)
      = ∑ n' ∈ Finset.range (n + 1), ∑ r : Fin 4096, share m c b k (4096 * n' + r.val)
  | 0, h, _ => by
    rw [Pipeline.accAt_zero]
    have e := step_first m c ⟨0, h⟩ junk0 (by show 0 % 8 = 0; rfl) (by show ¬0 % 8 = 7; decide)
    have e' := total_apply m c ⟨0, h⟩ (k0_pay1 (F := Ideal)) b k
    rw [pay1_apply, zero_add] at e'
    rw [Finset.sum_range_one]
    exact (congrFun e (ix2 b k)).trans e'
  | n + 1, h, hn => by
    rw [Pipeline.accAt_succ, Finset.sum_range_succ, ← acc_apply c b k n (Nat.lt_of_succ_lt h) (by omega)]
    have e := step_middle m c ⟨0 + (n + 1), h⟩ (Pipeline.accAt (fun n h => stAt0 m c n h junk0) (stAt0 m c) 0 n (Nat.lt_of_succ_lt h))
      (by show ¬(0 + (n + 1)) % 8 = 0; omega) (by show ¬(0 + (n + 1)) % 8 = 7; omega)
    have e' := total_apply m c ⟨0 + (n + 1), h⟩
      (Pipeline.accAt (fun n h => stAt0 m c n h junk0) (stAt0 m c) 0 n (Nat.lt_of_succ_lt h)).2.2.2 b k
    refine ((congrFun e (ix2 b k)).trans e').trans ?_
    simp only [Nat.zero_add]

/-- Eight blocks of 4096 rows are all the rows. -/
theorem blocks_sum (f : Nat → EReal) :
    ∑ n' ∈ Finset.range 8, ∑ r : Fin 4096, f (4096 * n' + r.val) = ∑ i : Fin 32768, f i.val := by
  rw [Finset.sum_range (fun n' => ∑ r : Fin 4096, f (4096 * n' + r.val)),
    ← Fintype.sum_prod_type' (fun (p : Fin 8) (r : Fin 4096) => f (4096 * p.val + r.val))]
  exact Fintype.sum_equiv (finProdFinEquiv (m := 8) (n := 4096)) _ (fun i : Fin 32768 => f i.val)
    fun p => congrArg f (by simp only [finProdFinEquiv_apply_val]; omega)

/-- The accumulator the last point completes: every row of every segment. -/
theorem pooled_apply (c : Dev nD) (h : 0 + 6 < cfg0.N) (h7 : 7 < cfg0.N) (b : Fin 16) (k : Fin 96) :
    total m c ⟨7, h7⟩ (Pipeline.accAt (fun n h => stAt0 m c n h junk0) (stAt0 m c) 0 6 h).2.2.2 (ix2 b k)
      = ∑ i : Fin 32768, if off m c b.castSucc ≤ (i.val : ℤ) ∧ (i.val : ℤ) < off m c b.succ
          then feature m c i k else 0 := by
  rw [total_apply, acc_apply m c b k 6 h (by decide), ← Finset.sum_range_succ (fun n' => ∑ r : Fin 4096, share m c b k (4096 * n' + r.val)) 7,
    blocks_sum]
  refine Finset.sum_congr rfl fun i _ => ?_
  unfold share
  rw [dif_pos i.isLt]

end Cert.KernelIdeal.Pooling

end
-- ==== Proof.Segments.lean ====
/-
  The reference's segment sum. The segment a row is sent to is the number of segment ends at or below it; when the
  offsets ascend from zero or below, that number is `b` exactly for the rows from offset `b` up to offset `b + 1`.
  So the scattered sum of segment `b` is the sum, over all rows, of the row's feature if the row lies in that range
  and of zero otherwise.
-/
module

public import proofs.«01_k».proof.Proof.Gen.ReferenceIdeal.Read
public import Idealize.ShloMosaic.Lib.ValueIdx
public import Idealize.ShloMosaic.Lib.WordCmp
public import Idealize.ShloMosaic.Lib.StableHlo.Predicate
public import Idealize.ShloMosaic.Lib.Routing.OpsPair

@[expose] public section

noncomputable section

open Idealize.ShloMosaic Idealize.ShloMosaic.ValueIdx

namespace Cert.Segments

/-! ## Counting the ends at or below a row -/

/-- Of ascending offsets that start at or below `r`, exactly `b` of the later ones are at or below `r` when `r` lies
    from offset `b` up to offset `b + 1`. -/
theorem count_eq_iff (f : Fin 17 → ℤ) (hf : ∀ i j : Fin 17, i ≤ j → f i ≤ f j) (r : ℤ) (h0 : f 0 ≤ r) (b : Fin 16) :
    (Finset.univ.filter fun j : Fin 16 => f j.succ ≤ r).card = b.val ↔ f b.castSucc ≤ r ∧ r < f b.succ := by
  have hcard : (Finset.univ.filter fun j : Fin 16 => j < b).card = b.val := by
    rw [Finset.filter_gt_eq_Iio, Fin.card_Iio]
  constructor
  · intro h
    constructor
    · by_contra hc
      have hb0 : b ≠ 0 := by rintro rfl; exact hc h0
      have hsub : (Finset.univ.filter fun j : Fin 16 => f j.succ ≤ r) ⊂ Finset.univ.filter fun j : Fin 16 => j < b := by
        rw [Finset.ssubset_iff_of_subset]
        · refine ⟨⟨b.val - 1, by omega⟩, ?_, ?_⟩
          · have : b.val ≠ 0 := fun e => hb0 (Fin.ext e)
            simp only [Finset.mem_filter, Finset.mem_univ, true_and, Fin.lt_def]
            omega
          · have hb : b.val ≠ 0 := fun e => hb0 (Fin.ext e)
            have e : (⟨b.val - 1, by omega⟩ : Fin 16).succ = b.castSucc := Fin.ext (by show b.val - 1 + 1 = b.val; omega)
            simp only [Finset.mem_filter, Finset.mem_univ, true_and]
            rw [e]; exact hc
        · intro j hj
          simp only [Finset.mem_filter, Finset.mem_univ, true_and] at hj ⊢
          by_contra hjb
          exact hc ((hf b.castSucc j.succ (by simp only [Fin.le_def, Fin.val_succ, Fin.val_castSucc]; simp only [Fin.lt_def] at hjb; omega)).trans hj)
      have := Finset.card_lt_card hsub
      omega
    · by_contra hc
      have hsub : (insert b (Finset.univ.filter fun j : Fin 16 => j < b)) ⊆ Finset.univ.filter fun j : Fin 16 => f j.succ ≤ r := by
        intro j hj
        simp only [Finset.mem_insert, Finset.mem_filter, Finset.mem_univ, true_and] at hj ⊢
        have hjb : j ≤ b := by rcases hj with rfl | hj; exacts [le_rfl, hj.le]
        exact (hf j.succ b.succ (Fin.succ_le_succ_iff.2 hjb)).trans (not_lt.1 hc)
      have := Finset.card_le_card hsub
      rw [Finset.card_insert_of_notMem (by simp)] at this
      omega
  · rintro ⟨h1, h2⟩
    rw [← hcard]
    refine congrArg Finset.card (Finset.filter_congr fun j _ => ⟨fun hj => ?_, fun hj => ?_⟩)
    · by_contra hjb
      exact absurd ((hf b.succ j.succ (Fin.succ_le_succ_iff.2 (not_lt.1 hjb))).trans hj) (not_le.2 h2)
    · exact (hf j.succ b.castSucc (by simp only [Fin.le_def, Fin.val_succ, Fin.val_castSucc]; simp only [Fin.lt_def] at hj; omega)).trans h1

/-! ## A scatter-add as a sum over every update -/

/-- Every update is counted where it lands and as zero elsewhere. -/
theorem scatterAdd_sum {s si u : Shape} {w : Nat} (d : ScatterDims s si u) (x : FVec Ideal s .f32) (idx : IVec si w)
    (upd : FVec Ideal u .f32) (i : s.Idx) :
    Host.scatterAdd d x idx upd i = x i + ∑ j : u.Idx, if d.resultIdx? j idx = some i then upd j else 0 := by
  unfold Host.scatterAdd
  rw [Ideal.hostScatterAdd_def]
  unfold Ideal.hostScatterAdd
  rw [Finset.sum_filter]

/-! ## Where an update of the scatter lands -/

open Cert.ReferenceIdeal Cert.ReferenceIdeal.Gen Cert.ReferenceIdeal.Read

/-- Element `(i, c')` of the updates is added to element `(b, c)` of the result exactly when row `i`'s index is `b` and
    the columns are the same. -/
theorem lands_iff (idx : IVec S32768x1 32) (i : Fin 32768) (c' : Fin 96) (b : Fin 16) (c : Fin 96) :
    (scatter_S16x96_S32768x1_S32768x96_1_0_0_1).resultIdx? (ix2 i c') idx = some (ix2 b c)
      ↔ (idx (ix2 i (0 : Fin 1))).toInt = (b.val : ℤ) ∧ c' = c := by
  have hs0 : (scatter_S16x96_S32768x1_S32768x96_1_0_0_1).start (ix2 i c') idx 0 = (idx (ix2 i (0 : Fin 1))).toInt := by
    unfold ScatterDims.start
    rw [dif_pos (by decide)]
    refine congrArg (fun q => (idx q).toInt) (funext fun a => Fin.ext ?_)
    match a with
    | ⟨0, _⟩ => rfl
    | ⟨1, _⟩ => rfl
  have hs1 : (scatter_S16x96_S32768x1_S32768x96_1_0_0_1).start (ix2 i c') idx 1 = 0 := by
    unfold ScatterDims.start
    rw [dif_neg (by decide)]
  have hw0 : (scatter_S16x96_S32768x1_S32768x96_1_0_0_1).window (ix2 i c') 0 = 0 := by
    unfold ScatterDims.window
    rw [dif_neg (by decide)]
  have hw1 : (scatter_S16x96_S32768x1_S32768x96_1_0_0_1).window (ix2 i c') 1 = c'.val := by
    unfold ScatterDims.window
    rw [dif_pos (by decide)]
    rfl
  rw [Routing.resultIdx?_ix2, hs0, hs1, hw0, hw1, Fin.ext_iff]
  omega

/-! ## The segment a row is sent to -/

/-- The offsets, read signed. -/
def off (x1 : IVec S17 32) (k : Fin 17) : ℤ := (x1 (ix1 k)).toInt

theorem row_toInt (i : Fin 32768) : (BitVec.ofNat 32 i.val).toInt = (i.val : ℤ) := by
  have := i.isLt
  exact WordCmp.toInt_ofNat_of_lt (by omega)

/-- The word the scatter reads for row `i`: how many ends are at or below it. -/
theorem segment_toNat (x1 : IVec S17 32) (i : Fin 32768) :
    (val_main_v10 (F := Ideal) x1 (ix2 i (0 : Fin 1))).toNat
      = (Finset.univ.filter fun j : Fin 16 => off x1 j.succ ≤ (i.val : ℤ)).card := by
  rw [val_main_v10_apply]
  have e := StableHlo.Predicate.toNat_reduce_count_cols (n := 32768) (m := 16) (by decide) (val_main_v6 (F := Ideal) x1) natLt_1_32
    reducesTo_S32768x16_S32768_d1 h_S_ (idx_main_v10 (ix2 i (0 : Fin 1)))
  refine e.trans (congrArg Finset.card (Finset.filter_congr fun j _ => ?_))
  rw [val_main_v6_apply, val_main_v4_apply, val_main_v2_apply, val_main_v1_apply, val_main_v5_apply, val_main_v3_apply,
    val_main_v0_apply, WordCmp.cmpi_sle_eq, WordCmp.ofBool_decide_eq_one_iff]
  have e1 : idx_main_v1 (idx_main_v2 (idx_main_v4 (StableHlo.Predicate.ij ((idx_main_v10 (ix2 i (0 : Fin 1))) 0) j))) = ix1 (j.succ : Fin 17) := by
    funext a
    match a with
    | ⟨0, _⟩ => exact Fin.ext (Nat.add_comm 1 j.val)
  rw [e1]
  show (x1 (ix1 j.succ)).toInt ≤ (BitVec.ofNat 32 i.val).toInt ↔ _
  rw [row_toInt]
  rfl

/-- The same word, read signed. -/
theorem segment_toInt (x1 : IVec S17 32) (i : Fin 32768) :
    (val_main_v10 (F := Ideal) x1 (ix2 i (0 : Fin 1))).toInt
      = ((Finset.univ.filter fun j : Fin 16 => off x1 j.succ ≤ (i.val : ℤ)).card : ℤ) := by
  have h := segment_toNat x1 i
  have hle : (Finset.univ.filter fun j : Fin 16 => off x1 j.succ ≤ (i.val : ℤ)).card ≤ 16 := by
    refine (Finset.card_le_univ _).trans ?_
    simp
  rw [WordCmp.toInt_eq_toNat_of_lt_half (by omega), h]

/-- The segment sum: every row of the range, added up. -/
theorem segment_sum (x0 : FVec Ideal S32768x96 .f32) (x1 : IVec S17 32)
    (hmono : ∀ i j : Fin 17, i ≤ j → off x1 i ≤ off x1 j) (hzero : off x1 0 ≤ 0) (b : Fin 16) (c : Fin 96) :
    val_main_v11 (F := Ideal) x0 x1 (ix2 b c)
      = ∑ i : Fin 32768, if off x1 b.castSucc ≤ (i.val : ℤ) ∧ (i.val : ℤ) < off x1 b.succ then x0 (ix2 i c) else 0 := by
  unfold val_main_v11
  rw [scatterAdd_sum]
  have hz : val_main_v9 (F := Ideal) (ix2 b c) = (0 : EReal) := by
    rw [val_main_v9_apply, val_main_cst_apply]
    exact Ideal.ofBits_zero_f32
  rw [hz, zero_add, sum_idx2]
  refine Finset.sum_congr rfl fun i _ => ?_
  have hi := count_eq_iff (off x1) hmono (i.val : ℤ) (hzero.trans (by positivity)) b
  rw [Finset.sum_eq_single c]
  · refine if_congr ?_ rfl rfl
    rw [lands_iff, segment_toInt, ← hi]
    simp
  · intro c' _ hc
    rw [if_neg]
    rw [lands_iff]
    exact fun h => hc h.2
  · intro h
    exact absurd (Finset.mem_univ c) h

end Cert.Segments

end
-- ==== Proof.Layers.lean ====
/-
  What the last point computes from the accumulator, read at an index: the two layers with their normalisations, the
  prediction, the mean squared error and the mean cosine, each as plain sums over the blocks it reads.
-/
module

public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

noncomputable section

open Idealize.ShloMosaic Idealize.ShloMosaic.ValueIdx

namespace Cert.KernelIdeal.Layers

open Cert.KernelIdeal Cert.KernelIdeal.Gen

/-! ## The normalisation -/

/-- Multiplying by the reciprocal root of a positive number is dividing by its root; infinity included. -/
theorem mul_rsqrt (a x : EReal) (hx : 0 < x) : a * Ideal.rsqrt x = Ideal.div a (Ideal.sqrt x) := by
  induction x with
  | bot => exact absurd hx (by simp)
  | top =>
    show a * 0 = Ideal.div a ⊤
    unfold Ideal.div
    rw [if_neg (by simp), EReal.inv_top]
  | coe r =>
    have hr : 0 < r := by exact_mod_cast hx
    have hs : Real.sqrt r ≠ 0 := (Real.sqrt_pos.2 hr).ne'
    show a * (if r < 0 then ⊥ else if r = 0 then ⊤ else (((Real.sqrt r)⁻¹ : ℝ) : EReal))
      = Ideal.div a (if r < 0 then ⊥ else (Real.sqrt r : EReal))
    rw [if_neg hr.le.not_gt, if_neg hr.ne', if_neg hr.le.not_gt]
    unfold Ideal.div
    rw [if_neg (by exact_mod_cast hs), EReal.coe_inv]

/-- The small number both programs add to a variance. -/
abbrev eps : EReal := Ideal.ofBits .f32 0x3727C5AC#32

/-! ## Rows and columns spread over a block -/

/-- A column of sixteen numbers, spread over 96 columns. -/
theorem column_apply (v : FVec Ideal S16x1 .f32) (r : Fin 16) (k : Fin 96) :
    broadcastTo S16x96 v broadcasts_S16x1_S16x96 (ix2 r k) = v (ix2 r (0 : Fin 1)) :=
  broadcastTo_apply v broadcasts_S16x1_S16x96 (ix2 r k) (ix2 r (0 : Fin 1)) fun a => match a with
    | ⟨0, _⟩ => by show r.val = if (16 : Nat) = 1 then 0 else r.val; rw [if_neg (by decide)]
    | ⟨1, _⟩ => by show (0 : Nat) = if (1 : Nat) = 1 then 0 else k.val; rw [if_pos rfl]

/-- A row of 256 numbers, spread over sixteen rows. -/
theorem row256_apply (v : FVec Ideal S1x256 .f32) (r : Fin 16) (k : Fin 256) :
    broadcastTo S16x256 v broadcasts_S1x256_S16x256 (ix2 r k) = v (ix2 (0 : Fin 1) k) :=
  broadcastTo_1b_ab_apply v broadcasts_S1x256_S16x256 r k

/-- A row of 128 numbers, spread over sixteen rows. -/
theorem row128_apply (v : FVec Ideal S1x128 .f32) (r : Fin 16) (k : Fin 128) :
    broadcastTo S16x128 v broadcasts_S1x128_S16x128 (ix2 r k) = v (ix2 (0 : Fin 1) k) :=
  broadcastTo_1b_ab_apply v broadcasts_S1x128_S16x128 r k

/-- A row of three numbers, spread over sixteen rows. -/
theorem row3_apply (v : FVec Ideal S1x3 .f32) (r : Fin 16) (k : Fin 3) :
    broadcastTo S16x3 v broadcasts_S1x3_S16x3 (ix2 r k) = v (ix2 (0 : Fin 1) k) :=
  broadcastTo_1b_ab_apply v broadcasts_S1x3_S16x3 r k

/-! ## The layers -/

/-- The first layer before its rectifier, from the pooled features `p`. -/
def layer1 (p : Fin 16 → Fin 96 → EReal) (W : FVec Ideal S96x256 .f32) (b g mu v be : Fin 256 → EReal) (r : Fin 16) (k : Fin 256) : EReal :=
  g k * ((∑ c : Fin 96, p r c * W (ix2 c k)) + b k - mu k) * Ideal.rsqrt (v k + eps) + be k

/-- The pooled features: a segment's sum over its length, a length of zero counting as one. -/
def mean (lo hi : IVec S16x1 32) (a : FVec Ideal S16x96 .f32) (r : Fin 16) (c : Fin 96) : EReal :=
  Ideal.div (a (ix2 r c))
    (max (((IntOp.subi (hi (ix2 r (0 : Fin 1))) (lo (ix2 r (0 : Fin 1)))).toInt : ℝ) : EReal) (Ideal.ofBits .f32 0x3F800000#32))

theorem pay7_apply (lo hi : IVec S16x1 32) (a : Vec Ideal S16x96 .f32) (W : Vec Ideal S96x256 .f32)
    (b g mu v be : Vec Ideal S1x256 .f32) (W2 : Vec Ideal S256x128 .f32) (r : Fin 16) (j : Fin 128) :
    k0_pay7 lo hi a W b g mu v be W2 (ix2 r j) = ∑ k : Fin 256,
      max (layer1 (mean lo hi a) W (fun k => b (ix2 (0 : Fin 1) k)) (fun k => g (ix2 (0 : Fin 1) k)) (fun k => mu (ix2 (0 : Fin 1) k))
        (fun k => v (ix2 (0 : Fin 1) k)) (fun k => be (ix2 (0 : Fin 1) k)) r k) (Ideal.ofBits .f32 0x00000000#32)
        * W2 (ix2 k j) := by
  unfold k0_pay7
  refine (Ideal.matmul_plain_apply (M := 16) (K := 256) (N := 128) none _ W2 (constant S16x128 .f32 0x00000000#32) r j).trans ?_
  rw [constant_apply, Ideal.ofBits_zero_f32, zero_add]
  refine Finset.sum_congr rfl fun k _ => congrArg (· * W2 (ix2 k j)) ?_
  simp only [shapeCast_self]
  rw [maximumf_apply, addf_apply, mulf_apply, mulf_apply, subf_apply, addf_apply, row256_apply, row256_apply, row256_apply, row256_apply,
    row256_apply]
  refine congrArg₂ max ?_ Ideal.ofBits_zero_f32
  unfold layer1
  refine congrArg (fun s : EReal => g (ix2 (0 : Fin 1) k) * (s + b (ix2 (0 : Fin 1) k) - mu (ix2 (0 : Fin 1) k))
    * Ideal.rsqrt (v (ix2 (0 : Fin 1) k) + eps) + be (ix2 (0 : Fin 1) k)) ?_
  refine (Ideal.matmul_plain_apply (M := 16) (K := 96) (N := 256) none _ W (constant S16x256 .f32 0x00000000#32) r k).trans ?_
  rw [constant_apply, Ideal.ofBits_zero_f32, zero_add]
  refine Finset.sum_congr rfl fun c _ => congrArg (· * W (ix2 c k)) ?_
  rw [divf_apply, column_apply]
  rfl

/-- The second layer before its rectifier. -/
def layer2 (h : FVec Ideal S16x128 .f32) (b g mu v be : Fin 128 → EReal) (r : Fin 16) (j : Fin 128) : EReal :=
  g j * (h (ix2 r j) + b j - mu j) * Ideal.rsqrt (v j + eps) + be j

theorem pay8_apply (h : FVec Ideal S16x128 .f32) (b g mu v be : Vec Ideal S1x128 .f32) (W : Vec Ideal S128x3 .f32)
    (b3 : Vec Ideal S1x3 .f32) (r : Fin 16) (q : Fin 3) :
    k0_pay8 h b g mu v be W b3 (ix2 r q) = (∑ j : Fin 128,
      max (layer2 h (fun k => b (ix2 (0 : Fin 1) k)) (fun k => g (ix2 (0 : Fin 1) k)) (fun k => mu (ix2 (0 : Fin 1) k))
        (fun k => v (ix2 (0 : Fin 1) k)) (fun k => be (ix2 (0 : Fin 1) k)) r j) (Ideal.ofBits .f32 0x00000000#32)
        * W (ix2 j q)) + b3 (ix2 (0 : Fin 1) q) := by
  unfold k0_pay8
  simp only [shapeCast_self]
  rw [addf_apply, row3_apply]
  refine congrArg (fun s : EReal => s + b3 (ix2 (0 : Fin 1) q)) ?_
  refine (Ideal.matmul_plain_apply (M := 16) (K := 128) (N := 3) none _ W (constant S16x3 .f32 0x00000000#32) r q).trans ?_
  rw [constant_apply, Ideal.ofBits_zero_f32, zero_add]
  refine Finset.sum_congr rfl fun j _ => congrArg (· * W (ix2 j q)) ?_
  rw [maximumf_apply, addf_apply, mulf_apply, mulf_apply, subf_apply, addf_apply, row128_apply, row128_apply, row128_apply, row128_apply,
    row128_apply]
  exact congrArg₂ max rfl Ideal.ofBits_zero_f32

/-! ## The two scalars -/

/-- Adding up a reshaped array adds up the array. -/
theorem sum_shapeCast {s t : Shape} (x : s.Idx → EReal) (h : s.ShapeCasts t) : ∑ i : t.Idx, shapeCast t x h i = ∑ i : s.Idx, x i :=
  Equiv.sum_comp (Shape.reshapeEquiv h) x

/-- One element of a reshaped array is one element of the array. -/
theorem extract_cast {s t : Shape} (x : s.Idx → EReal) (h : s.ShapeCasts t) (pos : Fin t.rank → Nat) (hp : ∀ a, pos a < t.size a) :
    extractAt pos (shapeCast t x h) hp = x (Shape.reshapeEquiv h fun a => ⟨pos a, hp a⟩) := rfl

/-- The sum of the squared errors. -/
theorem pay9_eq (h : FVec Ideal S16x128 .f32) (b g mu v be : Vec Ideal S1x128 .f32) (W : Vec Ideal S128x3 .f32)
    (b3 : Vec Ideal S1x3 .f32) (y : Vec Ideal S16x3 .f32) :
    k0_pay9 h b g mu v be W b3 y = ∑ i : S16x3.Idx,
      (k0_pay8 h b g mu v be W b3 i - y i) * (k0_pay8 h b g mu v be W b3 i - y i) := by
  unfold k0_pay9
  dsimp only
  generalize k0_pay8 h b g mu v be W b3 = p
  rw [extract_cast]
  refine (Ideal.multiReduction_add_total _ _ reduces_S1x16x3_S1 (fun a => match a with | ⟨0, _⟩ => rfl) _ _ _).trans ?_
  exact sum_shapeCast _ shapeCasts_S16x3_S1x16x3

/-- A row's sum. -/
theorem rowsum_apply (x : FVec Ideal S16x3 .f32) (r : Fin 16) :
    multiReduction .add [1] S16 x 0x00000000#32 reduces_S16x3_S16 (.inl rfl) rfl (ix1 r) = ∑ k : Fin 3, x (ix2 r k) := by
  refine (Ideal.multiReduction_add_single x _ reduces_S16x3_S16 _ _ (ix1 r)).trans (Finset.sum_congr rfl fun k _ => ?_)
  exact congrArg x (funext fun a => match a with | ⟨0, _⟩ => rfl | ⟨1, _⟩ => rfl)

/-- One row's cosine: the inner product over the product of the two lengths, each at least a small number. -/
def cosine (p y : FVec Ideal S16x3 .f32) (r : Fin 16) : EReal :=
  Ideal.div (∑ k : Fin 3, p (ix2 r k) * y (ix2 r k))
    (max (Ideal.sqrt (∑ k : Fin 3, p (ix2 r k) * p (ix2 r k))) (Ideal.ofBits .f32 0x322BCC77#32)
      * max (Ideal.sqrt (∑ k : Fin 3, y (ix2 r k) * y (ix2 r k))) (Ideal.ofBits .f32 0x322BCC77#32))

theorem pay6_apply (p y : Vec Ideal S16x3 .f32) (i : S1x1.Idx) :
    k0_pay6 (F := Ideal) p y i = Ideal.div (∑ r : Fin 16, cosine p y r) (Ideal.ofBits .f32 0x41800000#32) := by
  unfold k0_pay6
  dsimp only
  refine congrArg (fun s : EReal => Ideal.div s (Ideal.ofBits .f32 0x41800000#32)) ?_
  rw [extract_cast]
  refine (Ideal.multiReduction_add_single _ _ reduces_S1x16_S1 _ _ _).trans (Finset.sum_congr rfl fun r _ => ?_)
  have el : ∀ j : S1.Idx, reduces_S1x16_S1.lift j r = ix2 (0 : Fin 1) (r : Fin 16) := fun j => funext fun a => match a with
    | ⟨0, _⟩ => Subsingleton.elim (α := Fin 1) _ _
    | ⟨1, _⟩ => rfl
  rw [el]
  refine (shapeCast_a_1a_apply (a := 16) _ shapeCasts_S16_S1x16 (0 : Fin 1) r).trans ?_
  unfold cosine
  have e0 := rowsum_apply (mulf p y) r
  have e1 := rowsum_apply (mulf p p) r
  have e2 := rowsum_apply (mulf y y) r
  refine congrArg₂ Ideal.div e0 ?_
  exact congrArg₂ (fun u w : EReal => max (Ideal.sqrt u) (Ideal.ofBits .f32 0x322BCC77#32) * max (Ideal.sqrt w) (Ideal.ofBits .f32 0x322BCC77#32)) e1 e2

end Cert.KernelIdeal.Layers

end
-- ==== Proof.Stages.lean ====
/-
  The reference read at an index: the pooled features, the two layers with their normalisations, the prediction, the
  mean squared error and the mean cosine, in the shape the kernel's payloads are read in.
-/
module

public import proofs.«01_k».proof.Proof.Gen.ReferenceIdeal.Read
public import Idealize.ShloMosaic.Lib.ValueIdx
public import Idealize.ShloMosaic.Lib.IdealHost

@[expose] public section

noncomputable section

open Idealize.ShloMosaic Idealize.ShloMosaic.ValueIdx

namespace Cert.Stages

open Cert.ReferenceIdeal Cert.ReferenceIdeal.Gen Cert.ReferenceIdeal.Read

/-! ## Rows spread over the sixteen segments -/

theorem row_main_v23 (x : FVec Ideal S256 .f32) (r : Fin 16) (k : Fin 256) : val_main_v23 (F := Ideal) x (ix2 r k) = x (ix1 k) := by
  rw [val_main_v23_apply, val_main_v22_apply]
  exact congrArg x (eq_ix1 _)

theorem row_main_v26 (x : FVec Ideal S256 .f32) (r : Fin 16) (k : Fin 256) : val_main_v26 (F := Ideal) x (ix2 r k) = x (ix1 k) := by
  rw [val_main_v26_apply, val_main_v25_apply]
  exact congrArg x (eq_ix1 _)

theorem row_main_v29 (x : FVec Ideal S256 .f32) (r : Fin 16) (k : Fin 256) : val_main_v29 (F := Ideal) x (ix2 r k) = x (ix1 k) := by
  rw [val_main_v29_apply, val_main_v28_apply]
  exact congrArg x (eq_ix1 _)

theorem row_main_v38 (x : FVec Ideal S256 .f32) (r : Fin 16) (k : Fin 256) : val_main_v38 (F := Ideal) x (ix2 r k) = x (ix1 k) := by
  rw [val_main_v38_apply, val_main_v37_apply]
  exact congrArg x (eq_ix1 _)

theorem row_main_v43 (x : FVec Ideal S128 .f32) (r : Fin 16) (k : Fin 128) : val_main_v43 (F := Ideal) x (ix2 r k) = x (ix1 k) := by
  rw [val_main_v43_apply, val_main_v42_apply]
  exact congrArg x (eq_ix1 _)

theorem row_main_v46 (x : FVec Ideal S128 .f32) (r : Fin 16) (k : Fin 128) : val_main_v46 (F := Ideal) x (ix2 r k) = x (ix1 k) := by
  rw [val_main_v46_apply, val_main_v45_apply]
  exact congrArg x (eq_ix1 _)

theorem row_main_v49 (x : FVec Ideal S128 .f32) (r : Fin 16) (k : Fin 128) : val_main_v49 (F := Ideal) x (ix2 r k) = x (ix1 k) := by
  rw [val_main_v49_apply, val_main_v48_apply]
  exact congrArg x (eq_ix1 _)

theorem row_main_v58 (x : FVec Ideal S128 .f32) (r : Fin 16) (k : Fin 128) : val_main_v58 (F := Ideal) x (ix2 r k) = x (ix1 k) := by
  rw [val_main_v58_apply, val_main_v57_apply]
  exact congrArg x (eq_ix1 _)

theorem row_main_v63 (x : FVec Ideal S3 .f32) (r : Fin 16) (k : Fin 3) : val_main_v63 (F := Ideal) x (ix2 r k) = x (ix1 k) := by
  rw [val_main_v63_apply, val_main_v62_apply]
  exact congrArg x (eq_ix1 _)

theorem root_main_v35 (x : FVec Ideal S256 .f32) (r : Fin 16) (k : Fin 256) :
    val_main_v35 (F := Ideal) x (ix2 r k) = Ideal.sqrt (x (ix1 k) + Ideal.ofBits .f32 0x3727C5AC#32) := by
  rw [val_main_v35_apply, val_main_v34_apply, val_main_v33_apply, val_main_v32_apply, val_main_v31_apply, val_main_cst_1_apply]
  have e : idx_main_v34 (idx_main_v35 (ix2 r k)) = ix1 k := eq_ix1 _
  rw [e]
  rfl

theorem root_main_v55 (x : FVec Ideal S128 .f32) (r : Fin 16) (k : Fin 128) :
    val_main_v55 (F := Ideal) x (ix2 r k) = Ideal.sqrt (x (ix1 k) + Ideal.ofBits .f32 0x3727C5AC#32) := by
  rw [val_main_v55_apply, val_main_v54_apply, val_main_v53_apply, val_main_v52_apply, val_main_v51_apply, val_main_cst_2_apply]
  have e : idx_main_v54 (idx_main_v55 (ix2 r k)) = ix1 k := eq_ix1 _
  rw [e]
  rfl

/-! ## The stages -/

/-- A pooled feature: the segment's sum over its length, a length of zero counting as one. -/
theorem pooled_main_v20 (x0 : FVec Ideal S32768x96 .f32) (x1 : IVec S17 32) (r : Fin 16) (c : Fin 96) :
    val_main_v20 (F := Ideal) x0 x1 (ix2 r c) = Ideal.div (val_main_v11 (F := Ideal) x0 x1 (ix2 r c))
      (max (((IntOp.subi (x1 (ix1 r.succ)) (x1 (ix1 r.castSucc))).toInt : ℝ) : EReal) (Ideal.ofBits .f32 0x3F800000#32)) := by
  rw [val_main_v20_apply]
  refine congrArg (Ideal.div (val_main_v11 (F := Ideal) x0 x1 (ix2 r c))) ?_
  rw [val_main_v19_apply, val_main_v18_apply, val_main_v17_apply, val_main_v15_apply, val_main_v14_apply, val_main_v12_apply,
    val_main_v13_apply]
  refine congrArg₂ max ?_ ?_
  · have e1 : idx_main_v12 (idx_main_v18 (idx_main_v19 (ix2 r c))) = ix1 (r.succ : Fin 17) :=
      funext fun a => match a with | ⟨0, _⟩ => Fin.ext (by show 1 + r.val = r.val + 1; omega)
    have e2 : idx_main_v13 (idx_main_v18 (idx_main_v19 (ix2 r c))) = ix1 (r.castSucc : Fin 17) :=
      funext fun a => match a with | ⟨0, _⟩ => Fin.ext (by first | rfl | (show 0 + r.val = r.val; omega))
    rw [e1, e2]
    rfl
  · rw [val_main_v16_apply]
    rfl

section
variable (x0 : FVec Ideal S32768x96 .f32) (x1 : IVec S17 32) (x2 : FVec Ideal S16x3 .f32) (x3 : FVec Ideal S96x256 .f32)
  (x4 x5 x6 x7 x8 : FVec Ideal S256 .f32) (x9 : FVec Ideal S256x128 .f32) (x10 x11 x12 x13 x14 : FVec Ideal S128 .f32)
  (x15 : FVec Ideal S128x3 .f32) (x16 : FVec Ideal S3 .f32)

/-- The first layer, rectified, times the second layer's weights. -/
theorem hidden_main_v41 (r : Fin 16) (j : Fin 128) :
    val_main_v41 (F := Ideal) x0 x1 x3 x4 x5 x6 x7 x8 x9 (ix2 r j) = ∑ k : Fin 256,
      max (Ideal.div (x5 (ix1 k) * ((∑ c : Fin 96, val_main_v20 (F := Ideal) x0 x1 (ix2 r c) * x3 (ix2 c k)) + x4 (ix1 k) - x7 (ix1 k)))
          (Ideal.sqrt (x8 (ix1 k) + Ideal.ofBits .f32 0x3727C5AC#32)) + x6 (ix1 k)) (Ideal.ofBits .f32 0x00000000#32)
        * x9 (ix2 k j) := by
  rw [val_main_v41_apply]
  refine Finset.sum_congr rfl fun k _ => ?_
  have e1 : lidx_main_v41 (ix2 r j) k = ix2 r k := eq_ix2 _
  have e2 : ridx_main_v41 (ix2 r j) k = ix2 k j := eq_ix2 _
  rw [e1, e2, val_main_v40_apply, val_main_v39_apply, val_main_v36_apply, val_main_v30_apply, val_main_v27_apply, val_main_v24_apply,
    row_main_v38, root_main_v35, row_main_v29, row_main_v26, row_main_v23, val_main_v21_apply, val_main_call0_v0_apply,
    val_main_call0_cst_apply]
  have e3 : ∀ c : Fin 96, lidx_main_v21 (ix2 r k) c = ix2 r c := fun c => eq_ix2 _
  have e4 : ∀ c : Fin 96, ridx_main_v21 (ix2 r k) c = ix2 c k := fun c => eq_ix2 _
  simp only [e3, e4]
  rfl

/-- The prediction: the second layer, rectified, times the third layer's weights, plus its bias. -/
theorem pred_main_v64 (r : Fin 16) (q : Fin 3) :
    val_main_v64 (F := Ideal) x0 x1 x3 x4 x5 x6 x7 x8 x9 x10 x11 x12 x13 x14 x15 x16 (ix2 r q) = (∑ j : Fin 128,
      max (Ideal.div (x11 (ix1 j) * (val_main_v41 (F := Ideal) x0 x1 x3 x4 x5 x6 x7 x8 x9 (ix2 r j) + x10 (ix1 j) - x13 (ix1 j)))
          (Ideal.sqrt (x14 (ix1 j) + Ideal.ofBits .f32 0x3727C5AC#32)) + x12 (ix1 j)) (Ideal.ofBits .f32 0x00000000#32)
        * x15 (ix2 j q)) + x16 (ix1 q) := by
  rw [val_main_v64_apply, row_main_v63, val_main_v61_apply]
  refine congrArg (fun s : EReal => s + x16 (ix1 q)) (Finset.sum_congr rfl fun j _ => ?_)
  have e1 : lidx_main_v61 (ix2 r q) j = ix2 r j := eq_ix2 _
  have e2 : ridx_main_v61 (ix2 r q) j = ix2 j q := eq_ix2 _
  rw [e1, e2, val_main_v60_apply, val_main_v59_apply, val_main_v56_apply, val_main_v50_apply, val_main_v47_apply, val_main_v44_apply,
    row_main_v58, root_main_v55, row_main_v49, row_main_v46, row_main_v43, val_main_call1_v0_apply, val_main_call1_cst_apply]
  rfl

/-- The mean squared error. -/
theorem loss_main_v81 (i : S1x1.Idx) (p : FVec Ideal S16x3 .f32)
    (hp : val_main_v64 (F := Ideal) x0 x1 x3 x4 x5 x6 x7 x8 x9 x10 x11 x12 x13 x14 x15 x16 = p) :
    val_main_v81 (F := Ideal) x0 x1 x2 x3 x4 x5 x6 x7 x8 x9 x10 x11 x12 x13 x14 x15 x16 i
      = Ideal.div (∑ j : S16x3.Idx, (p j - x2 j) * (p j - x2 j)) (Ideal.ofBits .f32 0x42400000#32) := by
  unfold val_main_v81 shapeCast
  rw [val_main_v68_apply, val_main_v67_apply, val_main_cst_3_apply, val_main_cst_4_apply]
  refine congrArg (fun s : EReal => Ideal.div s (Ideal.ofBits .f32 0x42400000#32)) ?_
  refine (congrArg (fun s : EReal => s + _) Ideal.ofBits_zero_f32).trans ((zero_add _).trans (Finset.sum_congr rfl fun j _ => ?_))
  rw [val_main_v66_apply, val_main_v65_apply, hp]
  rfl

/-- The mean cosine. -/
theorem cos_main_v82 (i : S1x1.Idx) (p : FVec Ideal S16x3 .f32)
    (hp : val_main_v64 (F := Ideal) x0 x1 x3 x4 x5 x6 x7 x8 x9 x10 x11 x12 x13 x14 x15 x16 = p) :
    val_main_v82 (F := Ideal) x0 x1 x2 x3 x4 x5 x6 x7 x8 x9 x10 x11 x12 x13 x14 x15 x16 i
      = Ideal.div (∑ r : Fin 16, Ideal.div (∑ k : Fin 3, p (ix2 r k) * x2 (ix2 r k))
          (max (Ideal.sqrt (∑ k : Fin 3, p (ix2 r k) * p (ix2 r k))) (Ideal.ofBits .f32 0x322BCC77#32)
            * max (Ideal.sqrt (∑ k : Fin 3, x2 (ix2 r k) * x2 (ix2 r k))) (Ideal.ofBits .f32 0x322BCC77#32)))
          (Ideal.ofBits .f32 0x41800000#32) := by
  unfold val_main_v82 shapeCast
  rw [val_main_v80_apply, val_main_v79_apply, val_main_cst_8_apply, val_main_cst_9_apply]
  refine congrArg (fun s : EReal => Ideal.div s (Ideal.ofBits .f32 0x41800000#32)) ?_
  refine (congrArg (fun s : EReal => s + _) Ideal.ofBits_zero_f32).trans ((zero_add _).trans ?_)
  refine (Fintype.sum_equiv (⟨fun r => ix1 r, fun j => j 0, fun r => rfl, fun j => (eq_ix1 j).symm⟩ : Fin 16 ≃ S16.Idx) _ _ fun r => ?_).symm
  show _ = val_main_v78 (F := Ideal) x0 x1 x2 x3 x4 x5 x6 x7 x8 x9 x10 x11 x12 x13 x14 x15 x16 (ix1 r)
  symm
  rw [val_main_v78_apply, val_main_v77_apply, val_main_v73_apply, val_main_v76_apply, val_main_v71_apply, val_main_v74_apply,
    val_main_v72_apply, val_main_v75_apply, val_main_cst_6_apply, val_main_cst_7_apply, val_main_v70_apply, val_main_call2_v1_apply,
    val_main_call3_v1_apply, val_main_cst_5_apply, val_main_call2_cst_apply, val_main_call3_cst_apply]
  have z : ∀ s : EReal, (FloatOps.ofBits .f32 0x00000000#32 : Ideal .f32) + s = s := fun s =>
    (congrArg (fun u : EReal => u + s) Ideal.ofBits_zero_f32).trans (zero_add s)
  have e1 : ∀ k : Fin 3, val_main_v69 (F := Ideal) x0 x1 x2 x3 x4 x5 x6 x7 x8 x9 x10 x11 x12 x13 x14 x15 x16 (idx_main_v70 (ix1 r) k)
      = p (ix2 r k) * x2 (ix2 r k) := fun k => by
    have e : idx_main_v70 (ix1 r) k = ix2 r k := eq_ix2 _
    rw [e, val_main_v69_apply, hp]
    rfl
  have e2 : ∀ k : Fin 3, val_main_call2_v0 (F := Ideal) x0 x1 x3 x4 x5 x6 x7 x8 x9 x10 x11 x12 x13 x14 x15 x16 (idx_main_call2_v1 (ix1 r) k)
      = p (ix2 r k) * p (ix2 r k) := fun k => by
    have e : idx_main_call2_v1 (ix1 r) k = ix2 r k := eq_ix2 _
    rw [e, val_main_call2_v0_apply, hp]
    rfl
  have e3 : ∀ k : Fin 3, val_main_call3_v0 (F := Ideal) x2 (idx_main_call3_v1 (ix1 r) k)
      = x2 (ix2 r k) * x2 (ix2 r k) := fun k => by
    have e : idx_main_call3_v1 (ix1 r) k = ix2 r k := eq_ix2 _
    rw [e, val_main_call3_v0_apply]
    rfl
  refine congrArg₂ Ideal.div ((z _).trans (Finset.sum_congr rfl fun k _ => e1 k)) (congrArg₂ (fun u w : EReal => u * w) ?_ ?_)
  · exact congrArg (fun u : EReal => max (Ideal.sqrt u) (Ideal.ofBits .f32 0x322BCC77#32))
      ((z _).trans (Finset.sum_congr rfl fun k _ => e2 k))
  · exact congrArg (fun u : EReal => max (Ideal.sqrt u) (Ideal.ofBits .f32 0x322BCC77#32))
      ((z _).trans (Finset.sum_congr rfl fun k _ => e3 k))
end

end Cert.Stages

end
-- ==== Proof.Compare.lean ====
/-
  The kernel's last point against the reference: given blocks that hold the reference's arguments and an accumulator
  that holds its segment sums, the two layers, the prediction and the two scalars are the same numbers.
-/
module

public import proofs.«01_k».proof.Proof.Layers
public import proofs.«01_k».proof.Proof.Stages

@[expose] public section

noncomputable section

open Idealize.ShloMosaic Idealize.ShloMosaic.ValueIdx

namespace Cert.Compare

open Cert.KernelIdeal Cert.KernelIdeal.Gen Cert.KernelIdeal.Layers Cert.ReferenceIdeal.Read

variable (x0 : FVec Ideal S32768x96 .f32) (x1 : IVec S17 32) (x2 : FVec Ideal S16x3 .f32) (x3 : FVec Ideal S96x256 .f32)
  (x4 x5 x6 x7 x8 : FVec Ideal S256 .f32) (x9 : FVec Ideal S256x128 .f32) (x10 x11 x12 x13 x14 : FVec Ideal S128 .f32)
  (x15 : FVec Ideal S128x3 .f32) (x16 : FVec Ideal S3 .f32)

/-- The first layer, and its product with the second layer's weights. -/
theorem hidden_eq (lo hi : IVec S16x1 32) (a : FVec Ideal S16x96 .f32) (b g mu v be : Vec Ideal S1x256 .f32)
    (hlo : ∀ r : Fin 16, lo (ix2 r (0 : Fin 1)) = x1 (ix1 r.castSucc)) (hhi : ∀ r : Fin 16, hi (ix2 r (0 : Fin 1)) = x1 (ix1 r.succ))
    (ha : ∀ (r : Fin 16) (c : Fin 96), a (ix2 r c) = val_main_v11 (F := Ideal) x0 x1 (ix2 r c))
    (hb : ∀ k : Fin 256, b (ix2 (0 : Fin 1) k) = x4 (ix1 k)) (hg : ∀ k : Fin 256, g (ix2 (0 : Fin 1) k) = x5 (ix1 k))
    (hmu : ∀ k : Fin 256, mu (ix2 (0 : Fin 1) k) = x7 (ix1 k)) (hv : ∀ k : Fin 256, v (ix2 (0 : Fin 1) k) = x8 (ix1 k))
    (hbe : ∀ k : Fin 256, be (ix2 (0 : Fin 1) k) = x6 (ix1 k))
    (hpos : ∀ k : Fin 256, 0 < (x8 (ix1 k) : EReal) + eps) (r : Fin 16) (j : Fin 128) :
    k0_pay7 lo hi a x3 b g mu v be x9 (ix2 r j) = val_main_v41 (F := Ideal) x0 x1 x3 x4 x5 x6 x7 x8 x9 (ix2 r j) := by
  have hm : ∀ (r : Fin 16) (c : Fin 96), mean lo hi a r c = val_main_v20 (F := Ideal) x0 x1 (ix2 r c) := fun r c => by
    unfold mean
    rw [hlo, hhi, ha]
    exact (Cert.Stages.pooled_main_v20 x0 x1 r c).symm
  refine (pay7_apply lo hi a x3 b g mu v be x9 r j).trans (Eq.trans ?_ (Cert.Stages.hidden_main_v41 x0 x1 x3 x4 x5 x6 x7 x8 x9 r j).symm)
  refine Finset.sum_congr rfl fun k _ => congrArg (fun s : EReal => max s (Ideal.ofBits .f32 0x00000000#32) * x9 (ix2 k j)) ?_
  unfold layer1
  dsimp only
  rw [hb, hg, hmu, hv, hbe, mul_rsqrt _ _ (hpos k)]
  simp only [hm]

/-- The prediction. -/
theorem pred_eq (h : FVec Ideal S16x128 .f32) (b g mu v be : Vec Ideal S1x128 .f32) (b3 : Vec Ideal S1x3 .f32)
    (hh : ∀ (r : Fin 16) (j : Fin 128), h (ix2 r j) = val_main_v41 (F := Ideal) x0 x1 x3 x4 x5 x6 x7 x8 x9 (ix2 r j))
    (hb : ∀ k : Fin 128, b (ix2 (0 : Fin 1) k) = x10 (ix1 k)) (hg : ∀ k : Fin 128, g (ix2 (0 : Fin 1) k) = x11 (ix1 k))
    (hmu : ∀ k : Fin 128, mu (ix2 (0 : Fin 1) k) = x13 (ix1 k)) (hv : ∀ k : Fin 128, v (ix2 (0 : Fin 1) k) = x14 (ix1 k))
    (hbe : ∀ k : Fin 128, be (ix2 (0 : Fin 1) k) = x12 (ix1 k)) (hb3 : ∀ q : Fin 3, b3 (ix2 (0 : Fin 1) q) = x16 (ix1 q))
    (hpos : ∀ k : Fin 128, 0 < (x14 (ix1 k) : EReal) + eps) :
    k0_pay8 h b g mu v be x15 b3 = val_main_v64 (F := Ideal) x0 x1 x3 x4 x5 x6 x7 x8 x9 x10 x11 x12 x13 x14 x15 x16 := by
  funext i
  obtain ⟨r, q, rfl⟩ : ∃ (r : Fin 16) (q : Fin 3), i = ix2 r q := ⟨i 0, i 1, eq_ix2 i⟩
  refine (pay8_apply h b g mu v be x15 b3 r q).trans
    (Eq.trans ?_ (Cert.Stages.pred_main_v64 x0 x1 x3 x4 x5 x6 x7 x8 x9 x10 x11 x12 x13 x14 x15 x16 r q).symm)
  rw [hb3]
  refine congrArg (fun s : EReal => s + x16 (ix1 q)) (Finset.sum_congr rfl fun j _ =>
    congrArg (fun s : EReal => max s (Ideal.ofBits .f32 0x00000000#32) * x15 (ix2 j q)) ?_)
  unfold layer2
  dsimp only
  rw [hb, hg, hmu, hv, hbe, hh, mul_rsqrt _ _ (hpos j)]

/-- The mean squared error, from the prediction. -/
theorem loss_eq (h : FVec Ideal S16x128 .f32) (b g mu v be : Vec Ideal S1x128 .f32) (b3 : Vec Ideal S1x3 .f32)
    (hp : k0_pay8 h b g mu v be x15 b3 = val_main_v64 (F := Ideal) x0 x1 x3 x4 x5 x6 x7 x8 x9 x10 x11 x12 x13 x14 x15 x16) :
    k0_pay5 (k0_pay9 h b g mu v be x15 b3 x2) (Scalar.ofBits .f32 0x42400000#32)
      = val_main_v81 (F := Ideal) x0 x1 x2 x3 x4 x5 x6 x7 x8 x9 x10 x11 x12 x13 x14 x15 x16 := by
  funext i
  refine Eq.trans ?_ (Cert.Stages.loss_main_v81 x0 x1 x2 x3 x4 x5 x6 x7 x8 x9 x10 x11 x12 x13 x14 x15 x16 i _ hp.symm).symm
  rw [pay9_eq]
  rfl

/-- The mean cosine, from the prediction. -/
theorem cos_eq (p : FVec Ideal S16x3 .f32)
    (hp : p = val_main_v64 (F := Ideal) x0 x1 x3 x4 x5 x6 x7 x8 x9 x10 x11 x12 x13 x14 x15 x16) :
    k0_pay6 p x2 = val_main_v82 (F := Ideal) x0 x1 x2 x3 x4 x5 x6 x7 x8 x9 x10 x11 x12 x13 x14 x15 x16 := by
  funext i
  refine Eq.trans ?_ (Cert.Stages.cos_main_v82 x0 x1 x2 x3 x4 x5 x6 x7 x8 x9 x10 x11 x12 x13 x14 x15 x16 i _ hp.symm).symm
  exact pay6_apply p x2 i

end Cert.Compare

end
-- ==== Proof.Valid.lean ====
/-
  The precondition read back: the offsets ascend from zero or below, and each variance plus the small number is
  positive.
-/
module

public import proofs.«01_k».proof.Proof.Gen.Pre_offsets_sorted_variances_valid
public import proofs.«01_k».proof.Pre_offsets_sorted_variances_valid
public import Idealize.ShloMosaic.Lib.ValueIdx
public import Idealize.ShloMosaic.Lib.WordCmp
public import Idealize.ShloMosaic.PureOps.Ideal.Laws
public import Idealize.ShloMosaic.Lib.Affine
public import Idealize.ShloMosaic.Lib.ReduceAll
public import Idealize.ShloMosaic.Lib.Pipeline.Value

@[expose] public section

noncomputable section

open Idealize.ShloMosaic Idealize.ShloMosaic.ValueIdx

namespace Cert.Valid

open Cert.Pre_offsets_sorted_variances_valid

/-- A vector of sums, each compared to be above zero: one says the sum is positive. -/
theorem positive (x : EReal) (h : FloatOps.cmpf (F := Ideal) (φ := .f32) .ogt x (Ideal.ofBits .f32 0x00000000#32) = 1#1) : 0 < x := by
  have h' : BitVec.ofBool (decide (x > Ideal.ofBits .f32 0x00000000#32)) = 1#1 := h
  rw [WordCmp.ofBool_decide_eq_one_iff, Ideal.ofBits_zero_f32] at h'
  exact h'

variable [Facts]

theorem read (x0 : FVec Ideal S32768x96 .f32) (x1 : IVec S17 32) (x2 : FVec Ideal S16x3 .f32) (x3 : FVec Ideal S96x256 .f32)
    (x4 x5 x6 x7 x8 : FVec Ideal S256 .f32) (x9 : FVec Ideal S256x128 .f32) (x10 x11 x12 x13 x14 : FVec Ideal S128 .f32)
    (x15 : FVec Ideal S128x3 .f32) (x16 : FVec Ideal S3 .f32)
    (h : ∀ i, fn (F := Ideal) x0 x1 x2 x3 x4 x5 x6 x7 x8 x9 x10 x11 x12 x13 x14 x15 x16 i = 1#1) :
    (x1 (ix1 (0 : Fin 17))).toInt ≤ 0
      ∧ (∀ b : Fin 16, (x1 (ix1 b.castSucc)).toInt ≤ (x1 (ix1 b.succ)).toInt)
      ∧ (∀ k : Fin 256, 0 < (x8 (ix1 k) : EReal) + Ideal.ofBits .f32 0x3727C5AC#32)
      ∧ (∀ k : Fin 128, 0 < (x14 (ix1 k) : EReal) + Ideal.ofBits .f32 0x3727C5AC#32) := by
  have h0 := h ix0
  unfold fn fn_part1 at h0
  dsimp only at h0
  obtain ⟨h1, hv2⟩ := IntOp.andi_eq_one.1 h0
  obtain ⟨h2, hv1⟩ := IntOp.andi_eq_one.1 h1
  obtain ⟨hz, hs⟩ := IntOp.andi_eq_one.1 h2
  refine ⟨?_, fun b => ?_, fun k => ?_, fun k => ?_⟩
  · have e : IntOp.cmpi .sle (shapeCast S_ (extractStridedSlice S1 ![0] x1 Facts.slices_S17_S1_0) Facts.shapeCasts_S1_S_ ix0) 0#32 = 1#1 := hz
    rw [WordCmp.cmpi_sle_eq, WordCmp.ofBool_decide_eq_one_iff] at e
    have e' : shapeCast S_ (extractStridedSlice S1 ![0] x1 Facts.slices_S17_S1_0) Facts.shapeCasts_S1_S_ ix0 = x1 (ix1 (0 : Fin 17)) := by
      unfold shapeCast
      refine extractStridedSlice_apply _ _ _ _ _ fun a => ?_
      have := (Shape.reshapeEquiv (Facts.shapeCasts_S1_S_) ix0 a).isLt
      match a with
      | ⟨0, _⟩ =>
        have hlt : (Shape.reshapeEquiv (Facts.shapeCasts_S1_S_) ix0 0).val < 1 := (Shape.reshapeEquiv (Facts.shapeCasts_S1_S_) ix0 0).isLt
        show 0 = 0 + (Shape.reshapeEquiv (Facts.shapeCasts_S1_S_) ix0 0).val
        omega
    rw [e'] at e
    simpa using e
  · have e := Host.reduce_andi_all _ _ _ _ _ hs (ix1 b)
    have e2 : IntOp.cmpi .sle (extractStridedSlice S16 ![0] x1 Facts.slices_S17_S16_0 (ix1 b))
      (extractStridedSlice S16 ![1] x1 Facts.slices_S17_S16_1 (ix1 b)) = 1#1 := e
    rw [WordCmp.cmpi_sle_eq, WordCmp.ofBool_decide_eq_one_iff] at e2
    have ea : extractStridedSlice S16 ![0] x1 Facts.slices_S17_S16_0 (ix1 b) = x1 (ix1 b.castSucc) :=
      extractStridedSlice_apply _ _ _ _ _ fun a => match a with
        | ⟨0, _⟩ => by show b.val = 0 + b.val; omega
    have eb : extractStridedSlice S16 ![1] x1 Facts.slices_S17_S16_1 (ix1 b) = x1 (ix1 b.succ) :=
      extractStridedSlice_apply _ _ _ _ _ fun a => match a with
        | ⟨0, _⟩ => by show b.val + 1 = 1 + b.val; omega
    rw [ea, eb] at e2
    exact e2
  · exact positive _ (Host.reduce_andi_all _ _ _ _ _ hv1 (ix1 k))
  · exact positive _ (Host.reduce_andi_all _ _ _ _ _ hv2 (ix1 k))

end Cert.Valid

end
-- ==== Proof.Results.lean ====
/-
  What the kernel leaves in its three results, read as the reference's stages of the same arguments, where the
  precondition holds.
-/
module

public import proofs.«01_k».proof.Proof.Pooling
public import proofs.«01_k».proof.Proof.Segments
public import proofs.«01_k».proof.Proof.Compare
public import proofs.«01_k».proof.Proof.Valid
public import proofs.«01_k».proof.Defs

@[expose] public section

noncomputable section

open Idealize.ShloMosaic Idealize.ShloMosaic.TcCoe Idealize.ShloMosaic.ValueIdx Idealize.SL.Sem

namespace Cert.Results

open Cert.KernelIdeal Cert.KernelIdeal.Gen Cert.KernelIdeal.Value Cert.KernelIdeal.Steps Cert.KernelIdeal.Blocks
open Cert.KernelIdeal.Layers Cert.KernelIdeal.Pooling Cert.ReferenceIdeal.Read

/-- A fold over eight points ends with the eighth point's step. -/
theorem fold_last {α : Type} {N : Nat} (a : (n : Nat) → n < N → α) (g : (n : Nat) → n < N → α → α)
    (h : 0 + 7 < N) (h7 : 7 < N) (h6 : 0 + 6 < N) :
    Pipeline.accAt a g 0 7 h = g 7 h7 (Pipeline.accAt a g 0 6 h6) := rfl

variable [Cert.Pre_offsets_sorted_variances_valid.Facts]
variable (m : (ℓ : Loc nD τ sig) → Buf (Elt Ideal) ℓ) (hpre : Cert.Pre_KernelIdeal_offsets_sorted_variances_valid m)

/-- The first variance, entry `k`. -/
abbrev var1 (c : Dev nD) (k : Fin 256) : EReal := m ((c : Thread nD τ).loc main_arg8) (ix1 k)

/-- The second variance, entry `k`. -/
abbrev var2 (c : Dev nD) (k : Fin 128) : EReal := m ((c : Thread nD τ).loc main_arg14) (ix1 k)

include hpre

/-- The precondition at one device, as four facts. -/
theorem valid (c : Dev nD) : off m c 0 ≤ 0 ∧ (∀ b : Fin 16, off m c b.castSucc ≤ off m c b.succ)
    ∧ (∀ k : Fin 256, 0 < var1 m c k + eps)
    ∧ (∀ k : Fin 128, 0 < var2 m c k + eps) :=
  Cert.Valid.read (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) fun i => congrFun (hpre c) i

/-- The accumulator after the last point holds the reference's segment sums. -/
theorem pooled (c : Dev nD) (h : 0 + 6 < cfg0.N) (h7 : 7 < cfg0.N) (b : Fin 16) (k : Fin 96) :
    total m c ⟨7, h7⟩ (Pipeline.accAt (fun n h => stAt0 m c n h junk0) (stAt0 m c) 0 6 h).2.2.2 (ix2 b k)
      = val_main_v11 (F := Ideal) (m ((c : Thread nD τ).loc main_arg0)) (m ((c : Thread nD τ).loc main_arg1)) (ix2 b k) := by
  obtain ⟨hz, hs, -, -⟩ := valid m hpre c
  have hmono : Monotone (off m c) := Fin.monotone_iff_le_succ.mpr hs
  refine (pooled_apply m c h h7 b k).trans (Eq.trans ?_
    (Cert.Segments.segment_sum (m ((c : Thread nD τ).loc main_arg0)) (m ((c : Thread nD τ).loc main_arg1)) (fun i j hij => hmono hij) hz b k).symm)
  rfl

/-- The last point's second product. -/
theorem hidden_value (c : Dev nD) (h : 0 + 6 < cfg0.N) (h7 : 7 < cfg0.N) (r : Fin 16) (j : Fin 128) :
    Steps.hidden m c ⟨7, h7⟩ (Pipeline.accAt (fun n h => stAt0 m c n h junk0) (stAt0 m c) 0 6 h).2.2.2 (ix2 r j)
      = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r j) := by
  unfold Steps.hidden k0_pay2 k0_pay3
  rw [shapeCast_self, shapeCast_self, array_4, array_10]
  exact Cert.Compare.hidden_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _ _ _ _ _ _
    (fun r => start_apply m c ⟨7, h7⟩ r 0) (fun r => end_apply m c ⟨7, h7⟩ r 0) (pooled m hpre c h h7)
    (fun k => row_5 m c ⟨7, h7⟩ 0 k) (fun k => row_6 m c ⟨7, h7⟩ 0 k) (fun k => row_8 m c ⟨7, h7⟩ 0 k)
    (fun k => row_9 m c ⟨7, h7⟩ 0 k) (fun k => row_7 m c ⟨7, h7⟩ 0 k) (valid m hpre c).2.2.1 r j

/-- The last point's prediction. -/
theorem predicted_value (c : Dev nD) (h : 0 + 6 < cfg0.N) (h7 : 7 < cfg0.N) :
    predicted m c ⟨7, h7⟩ (Pipeline.accAt (fun n h => stAt0 m c n h junk0) (stAt0 m c) 0 6 h).2.2.2
      = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold predicted
  rw [array_16]
  exact Cert.Compare.pred_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ _ _ _ _ _ _
    (hidden_value m hpre c h h7)
    (fun k => row_11 m c ⟨7, h7⟩ 0 k) (fun k => row_12 m c ⟨7, h7⟩ 0 k) (fun k => row_14 m c ⟨7, h7⟩ 0 k)
    (fun k => row_15 m c ⟨7, h7⟩ 0 k) (fun k => row_13 m c ⟨7, h7⟩ 0 k) (fun q => row_17 m c ⟨7, h7⟩ 0 q)
    (valid m hpre c).2.2.2

/-- Result one: the prediction. -/
theorem prediction (c : Dev nD) : G18 m c = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h7 : 7 < cfg0.N := lt_of_lt_of_eq (by decide) N_0.symm
  have h6 : 0 + 6 < cfg0.N := lt_of_lt_of_eq (by decide) N_0.symm
  rw [G18_last m c, fold_last _ _ _ h7 h6]
  exact (step_pred m c ⟨7, h7⟩ (Pipeline.accAt (fun n h => stAt0 m c n h junk0) (stAt0 m c) 0 6 h6)
    (by show ¬7 % 8 = 0; decide) (by show 7 % 8 = 7; decide)).trans (predicted_value m hpre c h6 h7)

/-- Result two: the loss. -/
theorem loss (c : Dev nD) : G19 m c = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h7 : 7 < cfg0.N := lt_of_lt_of_eq (by decide) N_0.symm
  have h6 : 0 + 6 < cfg0.N := lt_of_lt_of_eq (by decide) N_0.symm
  rw [G19_last m c, fold_last _ _ _ h7 h6]
  refine (step_loss m c ⟨7, h7⟩ (Pipeline.accAt (fun n h => stAt0 m c n h junk0) (stAt0 m c) 0 6 h6)
    (by show ¬7 % 8 = 0; decide) (by show 7 % 8 = 7; decide)).trans ?_
  have hp := predicted_value m hpre c h6 h7
  unfold predicted at hp
  unfold squares
  rw [array_3]
  rw [array_16] at hp ⊢
  exact Cert.Compare.loss_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ _ _ _ _ _ _ hp

/-- Result three: the mean cosine. -/
theorem cosine_mean (c : Dev nD) : G20 m c = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h7 : 7 < cfg0.N := lt_of_lt_of_eq (by decide) N_0.symm
  have h6 : 0 + 6 < cfg0.N := lt_of_lt_of_eq (by decide) N_0.symm
  rw [G20_last m c, fold_last _ _ _ h7 h6]
  refine (step_cos m c ⟨7, h7⟩ (Pipeline.accAt (fun n h => stAt0 m c n h junk0) (stAt0 m c) 0 6 h6)
    (by show ¬7 % 8 = 0; decide) (by show 7 % 8 = 7; decide)).trans ?_
  rw [array_3]
  exact Cert.Compare.cos_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) _ (predicted_value m hpre c h6 h7)

end Cert.Results

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_offsets_sorted_variances_valid
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Results
public import Idealize.ShloMosaic.Lib.Claim
public import Idealize.ShloMosaic.Adequacy
public import Idealize.ShloMosaic.Init

@[expose] public section

noncomputable section

open Idealize.ShloMosaic Idealize.SL.Sem

namespace Cert.Proof

/-- The reference's frame: its generated run read at the arguments; it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0) :=
  (θ_run _ _ _).mono (fun r h => ⟨fun c => (h c).2.2.2, sem_eq_zero_of_no_sems (by decide) r.2⟩)
    (Cert.ReferenceIdeal.Value.run m g)

open Cert.ReferenceIdeal Cert.ReferenceIdeal.Read in
/-- Equal arguments, equal stage. -/
theorem v64_congr
    {x0 y0 : FVec Ideal S32768x96 .f32} {x1 y1 : IVec S17 32} {x3 y3 : FVec Ideal S96x256 .f32}
    {x4 y4 : FVec Ideal S256 .f32} {x5 y5 : FVec Ideal S256 .f32} {x6 y6 : FVec Ideal S256 .f32}
    {x7 y7 : FVec Ideal S256 .f32} {x8 y8 : FVec Ideal S256 .f32} {x9 y9 : FVec Ideal S256x128 .f32}
    {x10 y10 : FVec Ideal S128 .f32} {x11 y11 : FVec Ideal S128 .f32} {x12 y12 : FVec Ideal S128 .f32}
    {x13 y13 : FVec Ideal S128 .f32} {x14 y14 : FVec Ideal S128 .f32} {x15 y15 : FVec Ideal S128x3 .f32}
    {x16 y16 : FVec Ideal S3 .f32}
    (h0 : x0 = y0) (h1 : x1 = y1) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13)
    (h14 : x14 = y14) (h15 : x15 = y15) (h16 : x16 = y16) :
    val_main_v64 (F := Ideal) x0 x1 x3 x4 x5 x6 x7 x8 x9 x10 x11 x12 x13 x14 x15 x16
      = val_main_v64 (F := Ideal) y0 y1 y3 y4 y5 y6 y7 y8 y9 y10 y11 y12 y13 y14 y15 y16 := by
  subst h0 h1 h3 h4 h5 h6 h7 h8 h9 h10 h11 h12 h13 h14 h15 h16
  rfl

open Cert.ReferenceIdeal Cert.ReferenceIdeal.Read in
/-- Equal arguments, equal stage. -/
theorem v81_congr
    {x0 y0 : FVec Ideal S32768x96 .f32} {x1 y1 : IVec S17 32} {x2 y2 : FVec Ideal S16x3 .f32}
    {x3 y3 : FVec Ideal S96x256 .f32} {x4 y4 : FVec Ideal S256 .f32} {x5 y5 : FVec Ideal S256 .f32}
    {x6 y6 : FVec Ideal S256 .f32} {x7 y7 : FVec Ideal S256 .f32} {x8 y8 : FVec Ideal S256 .f32}
    {x9 y9 : FVec Ideal S256x128 .f32} {x10 y10 : FVec Ideal S128 .f32} {x11 y11 : FVec Ideal S128 .f32}
    {x12 y12 : FVec Ideal S128 .f32} {x13 y13 : FVec Ideal S128 .f32} {x14 y14 : FVec Ideal S128 .f32}
    {x15 y15 : FVec Ideal S128x3 .f32} {x16 y16 : FVec Ideal S3 .f32}
    (h0 : x0 = y0) (h1 : x1 = y1) (h2 : x2 = y2) (h3 : x3 = y3) (h4 : x4 = y4) (h5 : x5 = y5) (h6 : x6 = y6)
    (h7 : x7 = y7) (h8 : x8 = y8) (h9 : x9 = y9) (h10 : x10 = y10) (h11 : x11 = y11) (h12 : x12 = y12)
    (h13 : x13 = y13) (h14 : x14 = y14) (h15 : x15 = y15) (h16 : x16 = y16) :
    val_main_v81 (F := Ideal) x0 x1 x2 x3 x4 x5 x6 x7 x8 x9 x10 x11 x12 x13 x14 x15 x16
      = val_main_v81 (F := Ideal) y0 y1 y2 y3 y4 y5 y6 y7 y8 y9 y10 y11 y12 y13 y14 y15 y16 := by
  subst h0 h1 h2 h3 h4 h5 h6 h7 h8 h9 h10 h11 h12 h13 h14 h15 h16
  rfl

open Cert.ReferenceIdeal Cert.ReferenceIdeal.Read in
/-- Equal arguments, equal stage. -/
theorem v82_congr
    {x0 y0 : FVec Ideal S32768x96 .f32} {x1 y1 : IVec S17 32} {x2 y2 : FVec Ideal S16x3 .f32}
    {x3 y3 : FVec Ideal S96x256 .f32} {x4 y4 : FVec Ideal S256 .f32} {x5 y5 : FVec Ideal S256 .f32}
    {x6 y6 : FVec Ideal S256 .f32} {x7 y7 : FVec Ideal S256 .f32} {x8 y8 : FVec Ideal S256 .f32}
    {x9 y9 : FVec Ideal S256x128 .f32} {x10 y10 : FVec Ideal S128 .f32} {x11 y11 : FVec Ideal S128 .f32}
    {x12 y12 : FVec Ideal S128 .f32} {x13 y13 : FVec Ideal S128 .f32} {x14 y14 : FVec Ideal S128 .f32}
    {x15 y15 : FVec Ideal S128x3 .f32} {x16 y16 : FVec Ideal S3 .f32}
    (h0 : x0 = y0) (h1 : x1 = y1) (h2 : x2 = y2) (h3 : x3 = y3) (h4 : x4 = y4) (h5 : x5 = y5) (h6 : x6 = y6)
    (h7 : x7 = y7) (h8 : x8 = y8) (h9 : x9 = y9) (h10 : x10 = y10) (h11 : x11 = y11) (h12 : x12 = y12)
    (h13 : x13 = y13) (h14 : x14 = y14) (h15 : x15 = y15) (h16 : x16 = y16) :
    val_main_v82 (F := Ideal) x0 x1 x2 x3 x4 x5 x6 x7 x8 x9 x10 x11 x12 x13 x14 x15 x16
      = val_main_v82 (F := Ideal) y0 y1 y2 y3 y4 y5 y6 y7 y8 y9 y10 y11 y12 y13 y14 y15 y16 := by
  subst h0 h1 h2 h3 h4 h5 h6 h7 h8 h9 h10 h11 h12 h13 h14 h15 h16
  rfl

/-- Where the offsets start at zero or below and are sorted and the shifted variances are positive, the kernel's three
    results are the reference's three. -/
theorem values : Cert.algebraic_KernelIdeal_ReferenceIdeal_pre_offsets_sorted_variances_valid := by
  intro m g m' g' hpre hargs
  refine ⟨fun c => Cert.KernelIdeal.Value.G18 m c, fun c => Cert.KernelIdeal.Value.G19 m c,
    fun c => Cert.KernelIdeal.Value.G20 m c, Cert.KernelIdeal.Value.run m g, ?_⟩
  refine (θ_run _ _ _).mono (fun r h c => ?_) (Cert.ReferenceIdeal.Value.run m' g')
  obtain ⟨r1, r2, r3, hkept⟩ := h c
  obtain ⟨h0, h1, h2, h3, h4, h5, h6, h7, h8, h9, h10, h11, h12, h13, h14, h15, h16⟩ := hargs c
  refine ⟨r1.trans ?_, r2.trans ?_, r3.trans ?_, hkept⟩
  · refine (Cert.ReferenceIdeal.Read.val_main_v64_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans
      (Eq.trans ?_ (Cert.Results.prediction m hpre c).symm)
    exact v64_congr h0 h1 h3 h4 h5 h6 h7 h8 h9 h10 h11 h12 h13 h14 h15 h16
  · refine (Cert.ReferenceIdeal.Read.val_main_v81_eq (F := Ideal) m' c).trans
      (Eq.trans ?_ (Cert.Results.loss m hpre c).symm)
    exact v81_congr h0 h1 h2 h3 h4 h5 h6 h7 h8 h9 h10 h11 h12 h13 h14 h15 h16
  · refine (Cert.ReferenceIdeal.Read.val_main_v82_eq (F := Ideal) m' c).trans
      (Eq.trans ?_ (Cert.Results.cosine_mean m hpre c).symm)
    exact v82_congr h0 h1 h2 h3 h4 h5 h6 h7 h8 h9 h10 h11 h12 h13 h14 h15 h16

theorem claim : Cert.Claim :=
  ⟨Cert.Kernel.Gen.facts, Cert.KernelIdeal.Gen.facts, Cert.ReferenceIdeal.Gen.facts,
    Cert.Pre_offsets_sorted_variances_valid.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    values⟩

end Cert.Proof

end
